-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_on_message_only [hKernelIdeal : Cert.KernelIdeal.Facts] [hReferenceIdeal : Cert.ReferenceIdeal.Facts] [hOn_message_only : Cert.On_message_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 1024]⟩ : Shape).Idx, (Cert.On_message_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v5_0) i = v0 c i)
          ∧ (∀ i : (⟨2, ![2048, 16]⟩ : Shape).Idx, (Cert.On_message_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.KernelIdeal.nD Cert.KernelIdeal.τ).loc Cert.KernelIdeal.main_v5_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2048, 1024]⟩ : Shape).Idx, (Cert.On_message_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v59) i = v0 c i)
          ∧ (∀ i : (⟨2, ![2048, 16]⟩ : Shape).Idx, (Cert.On_message_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.ReferenceIdeal.nD Cert.ReferenceIdeal.τ).loc Cert.ReferenceIdeal.main_v60) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts) (hOn_message_only : Cert.On_message_only.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_message_only (hKernelIdeal := hKernelIdeal) (hReferenceIdeal := hReferenceIdeal) (hOn_message_only := hOn_message_only)
    ∧ algebraic_KernelIdeal_ReferenceIdeal_pre_finite (hKernelIdeal := hKernelIdeal) (hReferenceIdeal := hReferenceIdeal) (hPre_finite := hPre_finite)
-- ==== On_message_only.lean ====
abbrev S2048x1024 : Shape := ⟨2, ![2048, 1024]⟩
abbrev S1024x3072 : Shape := ⟨2, ![1024, 3072]⟩
abbrev S3072 : Shape := ⟨1, ![3072]⟩
abbrev S1024 : Shape := ⟨1, ![1024]⟩
abbrev S1024x1024 : Shape := ⟨2, ![1024, 1024]⟩
abbrev S_ : Shape := ⟨0, ![]⟩
abbrev S2048x16 : Shape := ⟨2, ![2048, 16]⟩

class Facts : Prop where
  bcast_S_S2048x1024 : S_.BroadcastsInDim S2048x1024 (![] : Fin 0 → Fin S2048x1024.rank)
  bcast_S_S2048x16 : S_.BroadcastsInDim S2048x16 (![] : Fin 0 → Fin S2048x16.rank)

variable [Facts]

def fn {F : FTy → Type} [FloatOps F] (main_arg0 : FVec F S2048x1024 .f32) (main_arg1 : FVec F S1024x3072 .f32) (main_arg2 : FVec F S3072 .f32) (main_arg3 : FVec F S1024 .f32) (main_arg4 : FVec F S1024 .f32) (main_arg5 : FVec F S1024x1024 .f32) (main_arg6 : FVec F S1024 .f32) : IVec S2048x1024 1 × IVec S2048x16 1 :=
  let main_c : IVec S_ 1 := constantI S_ 1 1#1
  let main_v0 : IVec S2048x1024 1 := broadcastInDim S2048x1024 ![] bcast_S_S2048x1024 main_c
  let main_c_0 : IVec S_ 1 := constantI S_ 1 0#1
  let main_v1 : IVec S2048x16 1 := broadcastInDim S2048x16 ![] bcast_S_S2048x16 main_c_0
  (main_v0, main_v1)
-- ==== Pre_finite.lean ====
abbrev S2048x1024 : Shape := ⟨2, ![2048, 1024]⟩
abbrev S1024x3072 : Shape := ⟨2, ![1024, 3072]⟩
abbrev S3072 : Shape := ⟨1, ![3072]⟩
abbrev S1024 : Shape := ⟨1, ![1024]⟩
abbrev S1024x1024 : Shape := ⟨2, ![1024, 1024]⟩
abbrev S1024x2048 : Shape := ⟨2, ![1024, 2048]⟩
abbrev S2048 : Shape := ⟨1, ![2048]⟩
abbrev S_ : Shape := ⟨0, ![]⟩

class Facts : Prop where
  slices_S1024x3072_S1024x2048_0_0 : S1024x3072.Slices ![0, 0] S1024x2048
  slices_S3072_S2048_0 : S3072.Slices ![0] S2048
  bcast_S_S2048x1024 : S_.BroadcastsInDim S2048x1024 (![] : Fin 0 → Fin S2048x1024.rank)
  bcast_S_S1024x2048 : S_.BroadcastsInDim S1024x2048 (![] : Fin 0 → Fin S1024x2048.rank)
  bcast_S_S2048 : S_.BroadcastsInDim S2048 (![] : Fin 0 → Fin S2048.rank)
  bcast_S_S1024 : S_.BroadcastsInDim S1024 (![] : Fin 0 → Fin S1024.rank)

variable [Facts]

def fn {F : FTy → Type} [FloatOps F] (main_arg0 : FVec F S2048x1024 .f32) (main_arg1 : FVec F S1024x3072 .f32) (main_arg2 : FVec F S3072 .f32) (main_arg3 : FVec F S1024 .f32) (main_arg4 : FVec F S1024 .f32) (main_arg5 : FVec F S1024x1024 .f32) (main_arg6 : FVec F S1024 .f32) : IVec S2048x1024 1 × IVec S1024x2048 1 × IVec S2048 1 × IVec S1024 1 × IVec S1024 1 :=
  let main_v0 : FVec F S1024x2048 .f32 := (extractStridedSlice S1024x2048 ![0, 0] · slices_S1024x3072_S1024x2048_0_0) main_arg1
  let main_v1 : FVec F S2048 .f32 := (extractStridedSlice S2048 ![0] · slices_S3072_S2048_0) main_arg2
  let main_v2 : FVec F S2048x1024 .f32 := Host.absf main_arg0
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_v5 : FVec F S1024x2048 .f32 := Host.absf main_v0
  let main_cst_0 : FVec F S_ .f32 := constant S_ .f32 0x7F800000#32
  let main_v6 : FVec F S1024x2048 .f32 := broadcastInDim S1024x2048 ![] bcast_S_S1024x2048 main_cst_0
  let main_v7 : IVec S1024x2048 1 := cmpf .olt main_v5 main_v6
  let main_v8 : FVec F S2048 .f32 := Host.absf main_v1
  let main_cst_1 : FVec F S_ .f32 := constant S_ .f32 0x7F800000#32
  let main_v9 : FVec F S2048 .f32 := broadcastInDim S2048 ![] bcast_S_S2048 main_cst_1
  let main_v10 : IVec S2048 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S1024 .f32 := Host.absf main_arg4
  let main_cst_3 : FVec F S_ .f32 := constant S_ .f32 0x7F800000#32
  let main_v15 : FVec F S1024 .f32 := broadcastInDim S1024 ![] bcast_S_S1024 main_cst_3
  let main_v16 : IVec S1024 1 := cmpf .olt main_v14 main_v15
  (main_v4, main_v7, main_v10, main_v13, main_v16)
-- ==== Kernel.lean ====
abbrev S2048x1024 : Shape := ⟨2, ![2048, 1024]⟩
abbrev S1024x3072 : Shape := ⟨2, ![1024, 3072]⟩
abbrev S3072 : Shape := ⟨1, ![3072]⟩
abbrev S1024 : Shape := ⟨1, ![1024]⟩
abbrev S1024x1024 : Shape := ⟨2, ![1024, 1024]⟩
abbrev S1x3072 : Shape := ⟨2, ![1, 3072]⟩
abbrev S1x1024 : Shape := ⟨2, ![1, 1024]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x3072 : Shape := ⟨2, ![256, 3072]⟩
abbrev S2048x16 : Shape := ⟨2, ![2048, 16]⟩
abbrev S256x16 : Shape := ⟨2, ![256, 16]⟩
abbrev S256x64 : Shape := ⟨2, ![256, 64]⟩
abbrev S2048x64 : Shape := ⟨2, ![2048, 64]⟩

abbrev nBuf : Space → Nat
  | .hbm => 15
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S3072, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x3072, .f32⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S2048x2048, .f32⟩
  | .hbm, ⟨12, _⟩ => ⟨S1x1024, .f32⟩
  | .hbm, ⟨13, _⟩ => ⟨S2048x1024, .f32⟩
  | .hbm, ⟨14, _⟩ => ⟨S2048x16, .i32⟩
  | .local _ .vmem, ⟨0, _⟩ => ⟨S256x1024, .f32⟩
  | .local _ .vmem, ⟨1, _⟩ => ⟨S256x1024, .f32⟩
  | .local _ .vmem, ⟨2, _⟩ => ⟨S1024x3072, .f32⟩
  | .local _ .vmem, ⟨3, _⟩ => ⟨S1x3072, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x1024, .f32⟩
  | .local _ .vmem, ⟨11, _⟩ => ⟨S256x1024, .f32⟩
  | .local _ .vmem, ⟨12, _⟩ => ⟨S2048x2048, .f32⟩
  | .local _ .vmem, ⟨13, _⟩ => ⟨S256x1024, .f32⟩
  | .local _ .vmem, ⟨14, _⟩ => ⟨S256x1024, .f32⟩
  | .local _ .vmem, ⟨15, _⟩ => ⟨S1024x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x16, .i32⟩
  | .local _ .vmem, ⟨20, _⟩ => ⟨S256x16, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x16 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S2048x1024 : Shape := ⟨2, ![2048, 1024]⟩
abbrev S1024x3072 : Shape := ⟨2, ![1024, 3072]⟩
abbrev S3072 : Shape := ⟨1, ![3072]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x3072 : Shape := ⟨2, ![2048, 3072]⟩
abbrev S1x3072 : Shape := ⟨2, ![1, 3072]⟩
abbrev S2048x3x16x64 : Shape := ⟨4, ![2048, 3, 16, 64]⟩
abbrev S2048x1x16x64 : Shape := ⟨4, ![2048, 1, 16, 64]⟩
abbrev S2048x16x64 : Shape := ⟨3, ![2048, 16, 64]⟩
abbrev S1x2048x16x64 : Shape := ⟨4, ![1, 2048, 16, 64]⟩
abbrev S1x16x2048x2048 : Shape := ⟨4, ![1, 16, 2048, 2048]⟩
abbrev S1x2048x2048x16 : Shape := ⟨4, ![1, 2048, 2048, 16]⟩
abbrev S1x2048x16 : Shape := ⟨3, ![1, 2048, 16]⟩
abbrev S1x2048x1x16 : Shape := ⟨4, ![1, 2048, 1, 16]⟩
abbrev S1x2048x2048 : Shape := ⟨3, ![1, 2048, 2048]⟩
abbrev S1x16x64x2048 : Shape := ⟨4, ![1, 16, 64, 2048]⟩
abbrev S1x2048x1024 : Shape := ⟨3, ![1, 2048, 1024]⟩
abbrev S1x1x1024 : Shape := ⟨3, ![1, 1, 1024]⟩
abbrev S2048x16 : Shape := ⟨2, ![2048, 16]⟩

abbrev nBuf : Space → Nat
  | .hbm => 102
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S3072, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .i32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x3072, .f32⟩
  | .hbm, ⟨52, _⟩ => ⟨S1x3072, .f32⟩
  | .hbm, ⟨53, _⟩ => ⟨S2048x3072, .f32⟩
  | .hbm, ⟨54, _⟩ => ⟨S2048x3072, .f32⟩
  | .hbm, ⟨55, _⟩ => ⟨S2048x3x16x64, .f32⟩
  | .hbm, ⟨56, _⟩ => ⟨S2048x1x16x64, .f32⟩
  | .hbm, ⟨57, _⟩ => ⟨S2048x16x64, .f32⟩
  | .hbm, ⟨58, _⟩ => ⟨S1x2048x16x64, .f32⟩
  | .hbm, ⟨59, _⟩ => ⟨S2048x1x16x64, .f32⟩
  | .hbm, ⟨60, _⟩ => ⟨S2048x16x64, .f32⟩
  | .hbm, ⟨61, _⟩ => ⟨S1x2048x16x64, .f32⟩
  | .hbm, ⟨62, _⟩ => ⟨S2048x1x16x64, .f32⟩
  | .hbm, ⟨63, _⟩ => ⟨S2048x16x64, .f32⟩
  | .hbm, ⟨64, _⟩ => ⟨S1x2048x16x64, .f32⟩
  | .hbm, ⟨65, _⟩ => ⟨S1x16x2048x2048, .f32⟩
  | .hbm, ⟨66, _⟩ => ⟨S1x2048x2048x16, .f32⟩
  | .hbm, ⟨67, _⟩ => ⟨S_, .f32⟩
  | .hbm, ⟨68, _⟩ => ⟨S1x2048x2048x16, .f32⟩
  | .hbm, ⟨69, _⟩ => ⟨S1x2048x2048x16, .f32⟩
  | .hbm, ⟨70, _⟩ => ⟨S_, .f32⟩
  | .hbm, ⟨71, _⟩ => ⟨S1x2048x16, .f32⟩
  | .hbm, ⟨72, _⟩ => ⟨S_, .f32⟩
  | .hbm, ⟨73, _⟩ => ⟨S1x2048x16, .f32⟩
  | .hbm, ⟨74, _⟩ => ⟨S1x2048x16, .f32⟩
  | .hbm, ⟨75, _⟩ => ⟨S1x2048x1x16, .f32⟩
  | .hbm, ⟨76, _⟩ => ⟨S1x2048x2048x16, .f32⟩
  | .hbm, ⟨77, _⟩ => ⟨S1x2048x2048x16, .f32⟩
  | .hbm, ⟨78, _⟩ => ⟨S1x2048x2048x16, .f32⟩
  | .hbm, ⟨79, _⟩ => ⟨S_, .f32⟩
  | .hbm, ⟨80, _⟩ => ⟨S1x2048x16, .f32⟩
  | .hbm, ⟨81, _⟩ => ⟨S1x2048x1x16, .f32⟩
  | .hbm, ⟨82, _⟩ => ⟨S1x2048x2048x16, .f32⟩
  | .hbm, ⟨83, _⟩ => ⟨S1x2048x2048x16, .f32⟩
  | .hbm, ⟨84, _⟩ => ⟨S_, .f32⟩
  | .hbm, ⟨85, _⟩ => ⟨S1x2048x2048, .f32⟩
  | .hbm, ⟨86, _⟩ => ⟨S_, .f32⟩
  | .hbm, ⟨87, _⟩ => ⟨S1x2048x2048, .f32⟩
  | .hbm, ⟨88, _⟩ => ⟨S1x2048x2048, .f32⟩
  | .hbm, ⟨89, _⟩ => ⟨S1x2048x16, .f32⟩
  | .hbm, ⟨90, _⟩ => ⟨S1x2048x16, .i32⟩
  | .hbm, ⟨91, _⟩ => ⟨S1x16x64x2048, .f32⟩
  | .hbm, ⟨92, _⟩ => ⟨S1x2048x16x64, .f32⟩
  | .hbm, ⟨93, _⟩ => ⟨S1x2048x1024, .f32⟩
  | .hbm, ⟨94, _⟩ => ⟨S1x2048x1024, .f32⟩
  | .hbm, ⟨95, _⟩ => ⟨S1x1x1024, .f32⟩
  | .hbm, ⟨96, _⟩ => ⟨S1x2048x1024, .f32⟩
  | .hbm, ⟨97, _⟩ => ⟨S1x2048x1024, .f32⟩
  | .hbm, ⟨98, _⟩ => ⟨S1x2048x1024, .f32⟩
  | .hbm, ⟨99, _⟩ => ⟨S1x2048x1024, .f32⟩
  | .hbm, ⟨100, _⟩ => ⟨S2048x1024, .f32⟩
  | .hbm, ⟨101, _⟩ => ⟨S2048x16, .i32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_2 : Ref sig .tc := ⟨.hbm, 67, rfl⟩
abbrev main_v34 : Ref sig .tc := ⟨.hbm, 68, rfl⟩
abbrev main_v35 : Ref sig .tc := ⟨.hbm, 69, rfl⟩
abbrev main_cst_3 : Ref sig .tc := ⟨.hbm, 70, rfl⟩
abbrev main_v36 : Ref sig .tc := ⟨.hbm, 71, rfl⟩
abbrev main_cst_4 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_5 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_6 : Ref sig .tc := ⟨.hbm, 84, rfl⟩
abbrev main_v47 : Ref sig .tc := ⟨.hbm, 85, rfl⟩
abbrev main_cst_7 : Ref sig .tc := ⟨.hbm, 86, rfl⟩
abbrev main_v48 : Ref sig .tc := ⟨.hbm, 87, rfl⟩
abbrev main_v49 : Ref sig .tc := ⟨.hbm, 88, rfl⟩
abbrev main_values : Ref sig .tc := ⟨.hbm, 89, rfl⟩
abbrev main_indices : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩

abbrev nD : Nat := 1
abbrev τ : Topo := Topo.v7x

variable {F : FTy → Type} [FloatOps F]
-- ==== Proof.Placing.lean ====
/-
  Where the blocks of both calls lie in their arrays: grid point `t` has rows `256 t … 256 t + 255`, and what an input
  block holds is the array at that place.
-/
module

public import Idealize.ShloMosaic.Lib.Pointwise
public import Idealize.ShloMosaic.Lib.Pipeline.Value
public import proofs.«01_k».proof.Proof.Gen.KernelIdeal.Frame

@[expose] public section

set_option maxRecDepth 16384

noncomputable section

namespace Cert.Proof.Placing

open Idealize.ShloMosaic Idealize.ShloMosaic.TcCoe Idealize.ShloMosaic.Pipeline Idealize.SL.Sem
open Cert.KernelIdeal Cert.KernelIdeal.Gen

/-- Row `r` of block `t`. -/
def rowAt (t : Nat) (ht : t < 8) (r : Fin 256) : Fin 2048 := ⟨t * 256 + r.val, by omega⟩

theorem lt0 (t : Fin cfg0.N) : t.val < 8 := by have := t.isLt; have : cfg0.N = 8 := N_0; omega

theorem lt1 (t : Fin cfg1.N) : t.val < 8 := by have := t.isLt; have : cfg1.N = 8 := N_1; omega

/-- The block indices of the projection call. -/
theorem idx0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- The block indices of the attention call. -/
theorem idx1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 1)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

/-- An index of rank two is known by its two coordinates. -/
theorem ix2_of_val {m n : Nat} (i : (⟨2, ![m, n]⟩ : Shape).Idx) (a : Fin m) (b : Fin n) (ha : (i 0).val = a.val)
    (hb : (i 1).val = b.val) : i = ix2 a b := by
  rw [eq_ix2 i]; exact congrArg₂ ix2 (Fin.ext ha) (Fin.ext hb)

section Embeddings

theorem emb0_0 (t : Fin cfg0.N) (r : Fin 256) (j : Fin 1024) :
    ((cfg0.win 0).blk t).view.emb (ix2 r j) = ix2 (rowAt t.val (lt0 t) r) j := by
  obtain ⟨⟨e0, e1⟩, _⟩ := idx0 t
  refine ix2_of_val _ _ _ ?_ ?_
  · show win0_0.index t (0 : Fin 2) * 256 + 1 * r.val = t.val * 256 + r.val; omega
  · show win0_0.index t (1 : Fin 2) * 1024 + 1 * j.val = j.val; omega

theorem emb0_1 (t : Fin cfg0.N) (r : Fin 1024) (j : Fin 3072) :
    ((cfg0.win 1).blk t).view.emb (ix2 r j) = ix2 r j := by
  obtain ⟨_, ⟨e0, e1⟩, _⟩ := idx0 t
  refine ix2_of_val _ _ _ ?_ ?_
  · show win0_1.index t (0 : Fin 2) * 1024 + 1 * r.val = r.val; omega
  · show win0_1.index t (1 : Fin 2) * 3072 + 1 * j.val = j.val; omega

theorem emb0_2 (t : Fin cfg0.N) (r : Fin 1) (j : Fin 3072) :
    ((cfg0.win 2).blk t).view.emb (ix2 r j) = ix2 r j := by
  obtain ⟨_, _, ⟨e0, e1⟩, _⟩ := idx0 t
  refine ix2_of_val _ _ _ ?_ ?_
  · show win0_2.index t (0 : Fin 2) * 1 + 1 * r.val = r.val; omega
  · show win0_2.index t (1 : Fin 2) * 3072 + 1 * j.val = j.val; omega

theorem emb0_3 (t : Fin cfg0.N) (r : Fin 1) (j : Fin 1024) :
    ((cfg0.win 3).blk t).view.emb (ix2 r j) = ix2 r j := by
  obtain ⟨_, _, _, ⟨e0, e1⟩, _⟩ := idx0 t
  refine ix2_of_val _ _ _ ?_ ?_
  · show win0_3.index t (0 : Fin 2) * 1 + 1 * r.val = r.val; omega
  · show win0_3.index t (1 : Fin 2) * 1024 + 1 * j.val = j.val; omega

theorem emb0_4 (t : Fin cfg0.N) (r : Fin 1) (j : Fin 1024) :
    ((cfg0.win 4).blk t).view.emb (ix2 r j) = ix2 r j := by
  obtain ⟨_, _, _, _, ⟨e0, e1⟩, _⟩ := idx0 t
  refine ix2_of_val _ _ _ ?_ ?_
  · show win0_4.index t (0 : Fin 2) * 1 + 1 * r.val = r.val; omega
  · show win0_4.index t (1 : Fin 2) * 1024 + 1 * j.val = j.val; omega

theorem emb0_5 (t : Fin cfg0.N) (r : Fin 256) (j : Fin 1024) :
    ((cfg0.win 5).blk t).view.emb (ix2 r j) = ix2 (rowAt t.val (lt0 t) r) j := by
  obtain ⟨_, _, _, _, _, ⟨e0, e1⟩, _⟩ := idx0 t
  refine ix2_of_val _ _ _ ?_ ?_
  · show win0_5.index t (0 : Fin 2) * 256 + 1 * r.val = t.val * 256 + r.val; omega
  · show win0_5.index t (1 : Fin 2) * 1024 + 1 * j.val = j.val; omega

theorem emb0_6 (t : Fin cfg0.N) (r : Fin 256) (j : Fin 2048) :
    ((cfg0.win 6).blk t).view.emb (ix2 r j) = ix2 (rowAt t.val (lt0 t) r) j := by
  obtain ⟨_, _, _, _, _, _, e0, e1⟩ := idx0 t
  refine ix2_of_val _ _ _ ?_ ?_
  · show win0_6.index t (0 : Fin 2) * 256 + 1 * r.val = t.val * 256 + r.val; omega
  · show win0_6.index t (1 : Fin 2) * 2048 + 1 * j.val = j.val; omega

theorem emb1_0 (t : Fin cfg1.N) (r : Fin 256) (j : Fin 1024) :
    ((cfg1.win 0).blk t).view.emb (ix2 r j) = ix2 (rowAt t.val (lt1 t) r) j := by
  obtain ⟨⟨e0, e1⟩, _⟩ := idx1 t
  refine ix2_of_val _ _ _ ?_ ?_
  · show win1_0.index t (0 : Fin 2) * 256 + 1 * r.val = t.val * 256 + r.val; omega
  · show win1_0.index t (1 : Fin 2) * 1024 + 1 * j.val = j.val; omega

theorem emb1_1 (t : Fin cfg1.N) (r : Fin 2048) (j : Fin 2048) :
    ((cfg1.win 1).blk t).view.emb (ix2 r j) = ix2 r j := by
  obtain ⟨_, ⟨e0, e1⟩, _⟩ := idx1 t
  refine ix2_of_val _ _ _ ?_ ?_
  · show win1_1.index t (0 : Fin 2) * 2048 + 1 * r.val = r.val; omega
  · show win1_1.index t (1 : Fin 2) * 2048 + 1 * j.val = j.val; omega

theorem emb1_2 (t : Fin cfg1.N) (r : Fin 256) (j : Fin 1024) :
    ((cfg1.win 2).blk t).view.emb (ix2 r j) = ix2 (rowAt t.val (lt1 t) r) (⟨1024 + j.val, by omega⟩ : Fin 2048) := by
  obtain ⟨_, _, ⟨e0, e1⟩, _⟩ := idx1 t
  refine ix2_of_val _ _ _ ?_ ?_
  · show win1_2.index t (0 : Fin 2) * 256 + 1 * r.val = t.val * 256 + r.val; omega
  · show win1_2.index t (1 : Fin 2) * 1024 + 1 * j.val = 1024 + j.val; omega

theorem emb1_3 (t : Fin cfg1.N) (r : Fin 1024) (j : Fin 1024) :
    ((cfg1.win 3).blk t).view.emb (ix2 r j) = ix2 r j := by
  obtain ⟨_, _, _, ⟨e0, e1⟩, _⟩ := idx1 t
  refine ix2_of_val _ _ _ ?_ ?_
  · show win1_3.index t (0 : Fin 2) * 1024 + 1 * r.val = r.val; omega
  · show win1_3.index t (1 : Fin 2) * 1024 + 1 * j.val = j.val; omega

theorem emb1_4 (t : Fin cfg1.N) (r : Fin 1) (j : Fin 1024) :
    ((cfg1.win 4).blk t).view.emb (ix2 r j) = ix2 r j := by
  obtain ⟨_, _, _, _, ⟨e0, e1⟩, _⟩ := idx1 t
  refine ix2_of_val _ _ _ ?_ ?_
  · show win1_4.index t (0 : Fin 2) * 1 + 1 * r.val = r.val; omega
  · show win1_4.index t (1 : Fin 2) * 1024 + 1 * j.val = j.val; omega

theorem emb1_5 (t : Fin cfg1.N) (r : Fin 256) (j : Fin 1024) :
    ((cfg1.win 5).blk t).view.emb (ix2 r j) = ix2 (rowAt t.val (lt1 t) r) j := by
  obtain ⟨_, _, _, _, _, ⟨e0, e1⟩, _⟩ := idx1 t
  refine ix2_of_val _ _ _ ?_ ?_
  · show win1_5.index t (0 : Fin 2) * 256 + 1 * r.val = t.val * 256 + r.val; omega
  · show win1_5.index t (1 : Fin 2) * 1024 + 1 * j.val = j.val; omega

theorem emb1_6 (t : Fin cfg1.N) (r : Fin 256) (j : Fin 16) :
    ((cfg1.win 6).blk t).view.emb (ix2 r j) = ix2 (rowAt t.val (lt1 t) r) j := by
  obtain ⟨_, _, _, _, _, _, e0, e1⟩ := idx1 t
  refine ix2_of_val _ _ _ ?_ ?_
  · show win1_6.index t (0 : Fin 2) * 256 + 1 * r.val = t.val * 256 + r.val; omega
  · show win1_6.index t (1 : Fin 2) * 16 + 1 * j.val = j.val; omega

end Embeddings

section Blocks

/-! What the input blocks hold, at any entry contents `V`. -/

variable {F : FTy → Type} [FloatOps F]
variable (V : (c : Dev nD) → (b : Ref sig .tc) → Buf (Elt F) ((c : Thread nD τ).loc b))

theorem blk0_0 (c : Dev nD) (t : Fin cfg0.N) (r : Fin 256) (j : Fin 1024) :
    iblk0 V c 0 t (ix2 r j) = V c main_arg0 (ix2 (rowAt t.val (lt0 t) r) j) :=
  congrArg (V c main_arg0) (emb0_0 t r j)

theorem blk0_1 (c : Dev nD) (t : Fin cfg0.N) (r : Fin 1024) (j : Fin 3072) :
    iblk0 V c 1 t (ix2 r j) = V c main_arg1 (ix2 r j) :=
  congrArg (V c main_arg1) (emb0_1 t r j)

theorem blk0_2 (c : Dev nD) (t : Fin cfg0.N) (r : Fin 1) (j : Fin 3072) :
    iblk0 V c 2 t (ix2 r j) = V c main_v0 (ix2 r j) :=
  congrArg (V c main_v0) (emb0_2 t r j)

theorem blk0_3 (c : Dev nD) (t : Fin cfg0.N) (r : Fin 1) (j : Fin 1024) :
    iblk0 V c 3 t (ix2 r j) = V c main_v1 (ix2 r j) :=
  congrArg (V c main_v1) (emb0_3 t r j)

theorem blk0_4 (c : Dev nD) (t : Fin cfg0.N) (r : Fin 1) (j : Fin 1024) :
    iblk0 V c 4 t (ix2 r j) = V c main_v2 (ix2 r j) :=
  congrArg (V c main_v2) (emb0_4 t r j)

theorem blk1_0 (c : Dev nD) (t : Fin cfg1.N) (r : Fin 256) (j : Fin 1024) :
    iblk1 V c 0 t (ix2 r j) = V c main_v3_0 (ix2 (rowAt t.val (lt1 t) r) j) :=
  congrArg (V c main_v3_0) (emb1_0 t r j)

theorem blk1_1 (c : Dev nD) (t : Fin cfg1.N) (r : Fin 2048) (j : Fin 2048) :
    iblk1 V c 1 t (ix2 r j) = V c main_v3_1 (ix2 r j) :=
  congrArg (V c main_v3_1) (emb1_1 t r j)

theorem blk1_2 (c : Dev nD) (t : Fin cfg1.N) (r : Fin 256) (j : Fin 1024) :
    iblk1 V c 2 t (ix2 r j) = V c main_v3_1 (ix2 (rowAt t.val (lt1 t) r) (⟨1024 + j.val, by omega⟩ : Fin 2048)) :=
  congrArg (V c main_v3_1) (emb1_2 t r j)

theorem blk1_3 (c : Dev nD) (t : Fin cfg1.N) (r : Fin 1024) (j : Fin 1024) :
    iblk1 V c 3 t (ix2 r j) = V c main_arg5 (ix2 r j) :=
  congrArg (V c main_arg5) (emb1_3 t r j)

theorem blk1_4 (c : Dev nD) (t : Fin cfg1.N) (r : Fin 1) (j : Fin 1024) :
    iblk1 V c 4 t (ix2 r j) = V c main_v4 (ix2 r j) :=
  congrArg (V c main_v4) (emb1_4 t r j)

end Blocks

section Cover

/-- What a view places at an index is in the view's set. -/
theorem mem_of_emb {κ : Kind} {sp : Space} {s : Shape} {e : EltTy} {v : View sig κ sp s e} {x : s.Idx}
    {i : v.ty.Idx}
    (h : v.emb x = i) : i ∈ v.set := h ▸ v.emb_mem_set x

/-! Every index of a result array lies in the block of one grid point. -/

theorem cover0_5 (i : (⟨2, ![2048, 1024]⟩ : Shape).Idx) :
    ∃ t : Fin cfg0.N, (cfg0.win 5).flush t = true ∧ i ∈ ((cfg0.win 5).blk t).view.set := by
  have h0 : (i 0).val < 2048 := (i 0).isLt
  have hN : cfg0.N = 8 := N_0
  have ht : (i 0).val / 256 < cfg0.N := by omega
  refine ⟨⟨(i 0).val / 256, ht⟩, flush0_5 _, ?_⟩
  exact mem_of_emb ((emb0_5 _ (⟨(i 0).val % 256, by omega⟩ : Fin 256) (i 1)).trans (ix2_of_val i _ _
      (by show (i 0).val = (i 0).val / 256 * 256 + (i 0).val % 256; omega) rfl).symm)

theorem cover0_6 (i : (⟨2, ![2048, 2048]⟩ : Shape).Idx) :
    ∃ t : Fin cfg0.N, (cfg0.win 6).flush t = true ∧ i ∈ ((cfg0.win 6).blk t).view.set := by
  have h0 : (i 0).val < 2048 := (i 0).isLt
  have hN : cfg0.N = 8 := N_0
  have ht : (i 0).val / 256 < cfg0.N := by omega
  refine ⟨⟨(i 0).val / 256, ht⟩, flush0_6 _, ?_⟩
  exact mem_of_emb ((emb0_6 _ (⟨(i 0).val % 256, by omega⟩ : Fin 256) (i 1)).trans (ix2_of_val i _ _
      (by show (i 0).val = (i 0).val / 256 * 256 + (i 0).val % 256; omega) rfl).symm)

theorem cover1_5 (i : (⟨2, ![2048, 1024]⟩ : Shape).Idx) :
    ∃ t : Fin cfg1.N, (cfg1.win 5).flush t = true ∧ i ∈ ((cfg1.win 5).blk t).view.set := by
  have h0 : (i 0).val < 2048 := (i 0).isLt
  have hN : cfg1.N = 8 := N_1
  have ht : (i 0).val / 256 < cfg1.N := by omega
  refine ⟨⟨(i 0).val / 256, ht⟩, flush1_5 _, ?_⟩
  exact mem_of_emb ((emb1_5 _ (⟨(i 0).val % 256, by omega⟩ : Fin 256) (i 1)).trans (ix2_of_val i _ _
      (by show (i 0).val = (i 0).val / 256 * 256 + (i 0).val % 256; omega) rfl).symm)

theorem cover1_6 (i : (⟨2, ![2048, 16]⟩ : Shape).Idx) :
    ∃ t : Fin cfg1.N, (cfg1.win 6).flush t = true ∧ i ∈ ((cfg1.win 6).blk t).view.set := by
  have h0 : (i 0).val < 2048 := (i 0).isLt
  have hN : cfg1.N = 8 := N_1
  have ht : (i 0).val / 256 < cfg1.N := by omega
  refine ⟨⟨(i 0).val / 256, ht⟩, flush1_6 _, ?_⟩
  exact mem_of_emb ((emb1_6 _ (⟨(i 0).val % 256, by omega⟩ : Fin 256) (i 1)).trans (ix2_of_val i _ _
      (by show (i 0).val = (i 0).val / 256 * 256 + (i 0).val % 256; omega) rfl).symm)

end Cover

end Cert.Proof.Placing

end
-- ==== Proof.Ranking.lean ====
/-
  Two ways of naming the sixteen largest entries of a row of extended reals.

  The host's top-k sorts the row, larger entries first and equal entries by position, and keeps the first positions.
  The kernel instead takes the row's maximum, the first position that holds it, overwrites that position with `⊥`, and
  repeats. This module shows that the two name the same positions in the same order, for every row without an entry `⊥`
  (`picked_eq_sorted`). With an entry `⊥` they can differ: an overwritten position can then be taken a second time.
-/
module

public import Idealize.ShloMosaic.Lib.SortFacts
public import Idealize.ShloMosaic.PureOps.Ideal
public import Idealize.ShloMosaic.PureOps.Reduce

@[expose] public section

noncomputable section

namespace Cert.Proof.Ranking

open Idealize.ShloMosaic

variable {n : ℕ}

/-! ### The order of the sort -/

/-- Position `a` comes before position `b`: its entry is larger, or the entries are equal and `a` is the earlier one. -/
def Before (S : Fin n → EReal) (a b : Fin n) : Prop := S b < S a ∨ (S a = S b ∧ a < b)

/-- The comparison the sort is given: entry `a` is strictly larger than entry `b`. -/
def larger (S : Fin n → EReal) (a b : Fin n) : Bool := decide (S b < S a)

theorem before_of_le {S : Fin n → EReal} {a b : Fin n} (h : S b ≤ S a) (hab : a < b) : Before S a b :=
  h.lt_or_eq.imp id fun e => ⟨e.symm, hab⟩

theorem Before.le {S : Fin n → EReal} {a b : Fin n} (h : Before S a b) : S b ≤ S a :=
  h.elim le_of_lt fun e => e.1.ge

/-- Inserting a position in front of later positions that are already in order keeps the list in order. -/
theorem pairwise_insert (S : Fin n → EReal) (a : Fin n) (l : List (Fin n)) (hl : l.Pairwise (Before S))
    (ha : ∀ b ∈ l, a < b) : (insertBefore (larger S) a l).Pairwise (Before S) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem b hc)⟩
      rcases List.mem_cons.mp ((perm_insertBefore _ a l).mem_iff.mp hc) with rfl | hc'
      · exact Or.inl (of_decide_eq_true h)
      · exact hl.1 c hc'
    · rename_i h
      have hba : S b ≤ S a := not_lt.mp fun hlt => h (decide_eq_true hlt)
      refine List.pairwise_cons.mpr ⟨fun c hc => ?_, List.pairwise_cons.mpr hl⟩
      refine before_of_le ?_ (ha c hc)
      rcases List.mem_cons.mp hc with rfl | hc'
      · exact hba
      · exact (hl.1 c hc').le.trans hba

/-- The sort of a list of increasing positions is in order. -/
theorem pairwise_sort (S : Fin n → EReal) (l : List (Fin n)) (hl : l.Pairwise (· < ·)) :
    (stableSort (larger S) l).Pairwise (Before S) := by
  induction l with
  | nil => exact List.Pairwise.nil
  | cons a l ih =>
    rw [List.pairwise_cons] at hl
    unfold stableSort
    exact pairwise_insert S a _ (ih hl.2) fun b hb => hl.1 b ((perm_stableSort _ l).mem_iff.mp hb)

/-- The positions the sort lists are in order: an earlier one comes before a later one. -/
theorem sorted_before (S : Fin n → EReal) {i j : Fin n} (hij : i < j) :
    Before S (sortedFrom (larger S) i) (sortedFrom (larger S) j) := by
  have hp : ∀ a b : Fin (sortPositions n (larger S)).length, a < b →
      Before S ((sortPositions n (larger S)).get a) ((sortPositions n (larger S)).get b) :=
    List.pairwise_iff_get.mp (pairwise_sort S (List.finRange n) (List.pairwise_lt_finRange n))
  unfold sortedFrom
  exact hp _ _ (by simp only [Fin.lt_def, Fin.val_cast]; exact hij)

/-- Two rows that compare alike are sorted alike. -/
theorem sorted_congr (S T : Fin n → EReal) (h : ∀ a b, S b < S a ↔ T b < T a) :
    sortedFrom (larger S) = sortedFrom (larger T) := by
  have : larger S = larger T := funext fun a => funext fun b => by
    unfold larger; exact decide_eq_decide.mpr (h a b)
  rw [this]

/-! ### Taking the maximum, again and again -/

/-- Position `i` is the first at which the row `w` is largest. -/
def FirstMax (w : Fin n → EReal) (i : Fin n) : Prop := (∀ t, w t ≤ w i) ∧ ∀ t, w t = w i → i ≤ t

/-- The row with the first `k` positions of the sort overwritten by `⊥`. -/
def struck (S : Fin n → EReal) (k : ℕ) (t : Fin n) : EReal :=
  open scoped Classical in if ∃ i : Fin n, i.val < k ∧ sortedFrom (larger S) i = t then ⊥ else S t

theorem struck_zero (S : Fin n → EReal) : struck S 0 = S := by
  funext t; unfold struck; exact if_neg fun ⟨_, h, _⟩ => absurd h (Nat.not_lt_zero _)

/-- Overwriting one more position. -/
theorem struck_succ (S : Fin n → EReal) (k : Fin n) (t : Fin n) :
    struck S (k.val + 1) t = if t = sortedFrom (larger S) k then ⊥ else struck S k.val t := by
  unfold struck
  by_cases ht : t = sortedFrom (larger S) k
  · rw [if_pos ht, if_pos ⟨k, Nat.lt_succ_self _, ht.symm⟩]
  · rw [if_neg ht]
    refine if_congr ⟨fun ⟨i, hi, e⟩ => ⟨i, ?_, e⟩, fun ⟨i, hi, e⟩ => ⟨i, Nat.lt_succ_of_lt hi, e⟩⟩ rfl rfl
    refine lt_of_le_of_ne (Nat.lt_succ_iff.mp hi) fun h => ht ?_
    rw [← e, Fin.ext h]

/-- With the first `k` positions of the sort overwritten, its next position is the first maximum. -/
theorem firstMax_struck (S : Fin n → EReal) (hS : ∀ t, ⊥ < S t) (k : Fin n) :
    FirstMax (struck S k.val) (sortedFrom (larger S) k) := by
  have hk : struck S k.val (sortedFrom (larger S) k) = S (sortedFrom (larger S) k) := by
    unfold struck
    refine if_neg fun ⟨i, hi, e⟩ => ?_
    rw [sortedFrom_injective _ e] at hi
    exact lt_irrefl _ hi
  have key : ∀ t, struck S k.val t = ⊥ ∨
      (struck S k.val t = S t ∧ (t = sortedFrom (larger S) k ∨ Before S (sortedFrom (larger S) k) t)) := by
    intro t
    obtain ⟨i, rfl⟩ := sortedFrom_surjective (larger S) t
    by_cases hi : i.val < k.val
    · left; unfold struck; exact if_pos ⟨i, hi, rfl⟩
    · right
      refine ⟨?_, ?_⟩
      · unfold struck
        refine if_neg fun ⟨j, hj, e⟩ => hi ?_
        rwa [← sortedFrom_injective _ e]
      · rcases (not_lt.mp hi).lt_or_eq with h | h
        · exact Or.inr (sorted_before S h)
        · exact Or.inl (by rw [Fin.ext h])
  refine ⟨fun t => ?_, fun t ht => ?_⟩
  · rw [hk]
    rcases key t with h | ⟨h, rfl | hb⟩
    · rw [h]; exact bot_le
    · rw [h]
    · rw [h]; exact hb.le
  · rw [hk] at ht
    rcases key t with h | ⟨h, rfl | hb⟩
    · rw [h] at ht; exact absurd (hS _) (by rw [← ht]; exact lt_irrefl _)
    · exact le_rfl
    · rcases hb with hb | hb
      · rw [h] at ht; rw [ht] at hb; exact absurd hb (lt_irrefl _)
      · exact hb.2.le

/-! ### The same step on 32-bit words -/

/-- The maximum of a row, folded from `⊥`. -/
def rowMax (w : Fin n → EReal) : EReal := Finset.univ.fold max ⊥ w

theorem rowMax_eq {w : Fin n → EReal} {i : Fin n} (h : ∀ t, w t ≤ w i) : rowMax w = w i :=
  le_antisymm ((Finset.fold_max_le _).2 ⟨bot_le, fun t _ => h t⟩)
    ((Finset.le_fold_max _).2 (Or.inr ⟨i, Finset.mem_univ i, le_rfl⟩))

/-- The position picked, as a word: the least of the positions that hold the maximum, the others counted as 2048. -/
def pick (w : Fin n → EReal) : BitVec 32 :=
  Finset.univ.fold IntOp.minsi 2147483647#32 fun t =>
    Scalar.select (Ideal.cmp .oeq (w t) (rowMax w)) (BitVec.ofNat 32 t.val) 2048#32

/-- The row with the picked position overwritten by `⊥`. -/
def strike (w : Fin n → EReal) : Fin n → EReal := fun t =>
  Scalar.select (IntOp.cmpi .eq (BitVec.ofNat 32 t.val) (pick w)) ⊥ (w t)

theorem minsi_right {a b : BitVec 32} (h : b.toInt ≤ a.toInt) : IntOp.minsi a b = b := by
  unfold IntOp.minsi
  rw [BitVec.slt_eq_decide, decide_eq_false (not_lt.mpr h)]; rfl

theorem minsi_left {a b : BitVec 32} (h : a.toInt ≤ b.toInt) : IntOp.minsi a b = a := by
  unfold IntOp.minsi
  rcases h.lt_or_eq with h | h
  · rw [BitVec.slt_eq_decide, decide_eq_true h]; rfl
  · rw [BitVec.toInt_inj.mp h]; exact ite_self _

/-- A fold of the signed minimum is the operand that lies below all of them and below the start. -/
theorem fold_minsi (s : Finset (Fin n)) (f : Fin n → BitVec 32) (c : BitVec 32) (i : Fin n) (hi : i ∈ s)
    (hc : (f i).toInt ≤ c.toInt) (h : ∀ t, (f i).toInt ≤ (f t).toInt) : s.fold IntOp.minsi c f = f i := by
  have hle : ∀ s : Finset (Fin n), (f i).toInt ≤ (s.fold IntOp.minsi c f).toInt := by
    intro s
    induction s using Finset.induction_on with
    | empty => exact hc
    | insert a s ha ih =>
      rw [Finset.fold_insert ha]
      unfold IntOp.minsi
      split
      · exact h a
      · exact ih
  rw [← Finset.insert_erase hi, Finset.fold_insert (Finset.notMem_erase i s)]
  exact minsi_left (hle _)

theorem toInt_ofNat {k : ℕ} (h : k ≤ 2048) : (BitVec.ofNat 32 k).toInt = k := by
  rw [BitVec.toInt_eq_toNat_of_lt (by rw [BitVec.toNat_ofNat]; omega), BitVec.toNat_ofNat,
    Nat.mod_eq_of_lt (by omega)]

/-- The word picked is the first maximum's position. -/
theorem pick_eq (hn : n ≤ 2048) {w : Fin n → EReal} {i : Fin n} (h : FirstMax w i) :
    pick w = BitVec.ofNat 32 i.val := by
  have hval : ∀ t, Scalar.select (Ideal.cmp .oeq (w t) (rowMax w)) (BitVec.ofNat 32 t.val) 2048#32
      = if w t = w i then BitVec.ofNat 32 t.val else 2048#32 := by
    intro t
    rw [rowMax_eq h.1]
    unfold Ideal.cmp Scalar.select
    by_cases e : w t = w i <;> simp [e]
  have hi : (if w i = w i then BitVec.ofNat 32 i.val else 2048#32) = BitVec.ofNat 32 i.val := if_pos rfl
  have ht : (BitVec.ofNat 32 i.val).toInt = i.val := toInt_ofNat (by omega)
  have hb : (i.val : ℤ) ≤ 2048 := Int.ofNat_le.mpr (show i.val ≤ 2048 by omega)
  unfold pick
  rw [show (fun t => _) = fun t => if w t = w i then BitVec.ofNat 32 t.val else 2048#32 from funext hval]
  refine (fold_minsi _ _ _ i (Finset.mem_univ i) ?_ fun t => ?_).trans hi
  · rw [hi, ht]
    exact hb.trans (by decide)
  · rw [hi, ht]
    split
    · rename_i e
      rw [toInt_ofNat (by omega)]
      exact Int.ofNat_le.mpr (h.2 t e)
    · rw [show (2048#32 : BitVec 32).toInt = 2048 by decide]
      exact hb

/-- Striking out the word picked overwrites the first maximum. -/
theorem strike_eq (hn : n ≤ 2048) {w : Fin n → EReal} {i : Fin n} (h : FirstMax w i) (t : Fin n) :
    strike w t = if t = i then ⊥ else w t := by
  unfold strike
  rw [pick_eq hn h]
  unfold IntOp.cmpi Scalar.select
  have : (BitVec.ofNat 32 t.val == BitVec.ofNat 32 i.val) = decide (t = i) := by
    by_cases e : t = i
    · subst e; simp
    · rw [decide_eq_false e, beq_eq_false_iff_ne]
      intro h'
      have := congrArg BitVec.toNat h'
      rw [BitVec.toNat_ofNat, BitVec.toNat_ofNat, Nat.mod_eq_of_lt (by omega), Nat.mod_eq_of_lt (by omega)] at this
      exact e (Fin.ext this)
  rw [this]
  by_cases e : t = i <;> simp [e]

/-- After `k` steps the first `k` positions of the sort are overwritten. -/
theorem strike_iterate (hn : n ≤ 2048) (S : Fin n → EReal) (hS : ∀ t, ⊥ < S t) (k : ℕ) (hk : k ≤ n) :
    strike^[k] S = struck S k := by
  induction k with
  | zero => rw [struck_zero]; rfl
  | succ k ih =>
    rw [Function.iterate_succ_apply', ih (Nat.le_of_succ_le hk)]
    funext t
    rw [strike_eq hn (firstMax_struck S hS ⟨k, hk⟩) t, ← struck_succ S ⟨k, hk⟩ t]

/-- THE SELECTION: of a row without an entry `⊥`, the word picked after `k` overwrites is the position the sort lists
    at `k`. -/
theorem picked_eq_sorted (hn : n ≤ 2048) (S : Fin n → EReal) (hS : ∀ t, ⊥ < S t) (k : Fin n) :
    pick (strike^[k.val] S) = BitVec.ofNat 32 (sortedFrom (larger S) k).val := by
  rw [strike_iterate hn S hS k.val k.isLt.le]
  exact pick_eq hn (firstMax_struck S hS k)

end Cert.Proof.Ranking

end
-- ==== Proof.Spec.lean ====
/-
  The mathematics of the problem, row by row, over the extended reals: the normalised row, its projection to queries,
  keys and values, one head's softmax, the total probability of a key, and the message. Both programs are shown to
  compute these functions.
-/
module

public import Idealize.ShloMosaic.PureOps.Ideal
public import proofs.«01_k».proof.Proof.Ranking

@[expose] public section

noncomputable section

namespace Cert.Proof.Spec

open Idealize.ShloMosaic

/-- The row length 1024, as the programs write it. -/
def width : EReal := Ideal.ofBits .f32 0x44800000#32

/-- The small number under the square root. -/
def eps : EReal := Ideal.ofBits .f32 0x3727C5AC#32

/-- The scale of the scores, one eighth. -/
def eighth : EReal := Ideal.ofBits .f32 0x3E000000#32

/-- The number of heads, as the programs write it. -/
def sixteen : EReal := Ideal.ofBits .f32 0x41800000#32

/-- The number of heads as a number. -/
theorem sixteen_eq : sixteen = ((16 : ℝ) : EReal) := by
  unfold sixteen
  simp [Ideal.ofBits, Ideal.ieee]
  rw [← EReal.coe_mul]
  norm_num

/-- The row length as a number. -/
theorem width_eq : width = ((1024 : ℝ) : EReal) := by
  unfold width
  simp [Ideal.ofBits, Ideal.ieee]
  rw [← EReal.coe_mul]
  norm_num

/-- The number under the square root, as a number. -/
theorem eps_pos : ∃ e : ℝ, 0 < e ∧ eps = (e : EReal) := by
  unfold eps
  simp only [Ideal.ofBits, Ideal.ieee]
  simp
  exact ⟨_, by positivity, rfl⟩

/-- The scale as a number. -/
theorem eighth_eq : eighth = ((1 / 8 : ℝ) : EReal) := by
  unfold eighth
  simp [Ideal.ofBits, Ideal.ieee]
  rw [← EReal.coe_mul]
  norm_num

section Row

variable (x g b : Fin 1024 → EReal)

/-- The mean of a row. -/
def mean : EReal := Ideal.div (∑ d, x d) width

/-- A row less its mean. -/
def centred (d : Fin 1024) : EReal := x d - mean x

/-- The variance of a row. -/
def variance : EReal := Ideal.div (∑ d, centred x d * centred x d) width

/-- The normalised row, scaled by `g` and shifted by `b`. -/
def normed (d : Fin 1024) : EReal := Ideal.div (centred x d) (Ideal.sqrt (variance x + eps)) * g d + b d

/-- A row's queries, keys and values: the normalised row times the weights, plus the bias. -/
def project (W : Fin 1024 → Fin 3072 → EReal) (bias : Fin 3072 → EReal) (j : Fin 3072) : EReal :=
  (∑ d, normed x g b d * W d j) + bias j

end Row

/-- The softmax of a row of scores. -/
def soft {n : Nat} (s : Fin n → EReal) (t : Fin n) : EReal :=
  Ideal.div (Ideal.exp (s t - Ranking.rowMax s)) (∑ u, Ideal.exp (s u - Ranking.rowMax s))

/-- Column `c` of head `h`, among 1024 columns. -/
def col (h : Fin 16) (c : Fin 64) : Fin 1024 := ⟨64 * h.val + c.val, by omega⟩

/-- Column `c` of head `h`'s keys, among the 2048 columns of keys and values. -/
def keyCol (h : Fin 16) (c : Fin 64) : Fin 2048 := ⟨64 * h.val + c.val, by omega⟩

/-- Column `c` of head `h`'s values, among the 2048 columns of keys and values. -/
def valueCol (h : Fin 16) (c : Fin 64) : Fin 2048 := ⟨1024 + 64 * h.val + c.val, by omega⟩

/-- The head of a column. -/
def headOf (j : Fin 1024) : Fin 16 := ⟨j.val / 64, by omega⟩

/-- A column's place within its head. -/
def within (j : Fin 1024) : Fin 64 := ⟨j.val % 64, by omega⟩

section Attention

/-! One query row `q` against the keys and values `kv` of all rows. -/

variable (q : Fin 1024 → EReal) (kv : Fin 2048 → Fin 2048 → EReal)

/-- The scaled score of key `t` for head `h`. -/
def score (h : Fin 16) (t : Fin 2048) : EReal := (∑ c, q (col h c) * kv t (keyCol h c)) * eighth

/-- The probability of key `t` for head `h`. -/
def prob (h : Fin 16) (t : Fin 2048) : EReal := soft (score q kv h) t

/-- Head `h`'s output in column `c`. -/
def head (h : Fin 16) (c : Fin 64) : EReal := ∑ t, prob q kv h t * kv t (valueCol h c)

/-- The total probability of key `t`, over all heads. -/
def total (t : Fin 2048) : EReal := ∑ h, prob q kv h t

/-- The message in column `j`: the heads' outputs projected, plus the bias, plus the row's own value `own`. -/
def message (Wp : Fin 1024 → Fin 1024 → EReal) (bp own : Fin 1024 → EReal) (j : Fin 1024) : EReal :=
  (∑ d, head q kv (headOf d) (within d) * Wp d j) + bp j + own j

/-- The position picked in step `k`, of the total probabilities. -/
def picked (k : Nat) : BitVec 32 := Ranking.pick (Ranking.strike^[k] (total q kv))

end Attention

section Whole

/-! The whole problem: the points' rows `X`, the projection `W` with its bias, the normalisation's `g` and `b`, the output
    projection `Wp` with its bias `bp`. -/

variable (X : Fin 2048 → Fin 1024 → EReal) (W : Fin 1024 → Fin 3072 → EReal) (bias : Fin 3072 → EReal)
  (g b : Fin 1024 → EReal) (Wp : Fin 1024 → Fin 1024 → EReal) (bp : Fin 1024 → EReal)

/-- The queries of row `r`. -/
def queryOf (r : Fin 2048) (j : Fin 1024) : EReal := project (X r) g b W bias ⟨j.val, by omega⟩

/-- The keys and values of row `t`. -/
def kvOf (t : Fin 2048) (j : Fin 2048) : EReal := project (X t) g b W bias ⟨1024 + j.val, by omega⟩

/-- The value of row `r` in column `j`. -/
def valueOf (r : Fin 2048) (j : Fin 1024) : EReal := kvOf X W bias g b r ⟨1024 + j.val, by omega⟩

/-- The message of row `r`. -/
def messageOf (r : Fin 2048) (j : Fin 1024) : EReal :=
  message (queryOf X W bias g b r) (kvOf X W bias g b) Wp bp (valueOf X W bias g b r) j

/-- The total probabilities of row `r`. -/
def totalOf (r : Fin 2048) (t : Fin 2048) : EReal := total (queryOf X W bias g b r) (kvOf X W bias g b) t

/-- The position picked for row `r` in step `k`. -/
def pickedOf (r : Fin 2048) (k : Nat) : BitVec 32 := picked (queryOf X W bias g b r) (kvOf X W bias g b) k

end Whole

end Cert.Proof.Spec

end
-- ==== Proof.ProjectRead.lean ====
/-
  A block of the projection call read at an index, at the ideal instance: row `r`, column `j` is the projected
  normalised row of `Proof/Spec.lean`.
-/
module

public import Idealize.ShloMosaic.Lib.Pointwise
public import proofs.«01_k».proof.Proof.Spec
public import proofs.«01_k».proof.Proof.Gen.KernelIdeal.Frame

@[expose] public section

set_option maxRecDepth 16384

noncomputable section

namespace Cert.Proof.ProjectRead

open Idealize.ShloMosaic Idealize.ShloMosaic.Pipeline Cert.KernelIdeal Cert.KernelIdeal.Gen

/-- The whole projection of a block. -/
theorem project_apply (x : Vec Ideal S256x1024 .f32) (g b : Vec Ideal S1x1024 .f32) (W : Vec Ideal S1024x3072 .f32)
    (bias : Vec Ideal S1x3072 .f32) (r : Fin 256) (j : Fin 3072) :
    k0_pay1 x g b W bias (ix2 r j) = Spec.project (fun d => x (ix2 r d)) (fun d => g (ix2 0 d)) (fun d => b (ix2 0 d))
      (fun d j => W (ix2 d j)) (fun j => bias (ix2 0 j)) j := by
  pointwise [k0_pay1]
  rfl

variable (x : Vec Ideal S256x1024 .f32) (W : Vec Ideal S1024x3072 .f32) (bias : Vec Ideal S1x3072 .f32)
  (g b : Vec Ideal S1x1024 .f32)

/-- The queries of a block. -/
theorem queries_apply (r : Fin 256) (j : Fin 1024) :
    k0_pay2 (View.ld x r0_0) (View.ld g r0_1) (View.ld b r0_1) (View.ld W r0_2) (View.ld bias r0_3) (ix2 r j)
      = Spec.project (fun d => x (ix2 r d)) (fun d => g (ix2 0 d)) (fun d => b (ix2 0 d))
      (fun d j => W (ix2 d j)) (fun j => bias (ix2 0 j)) ⟨j.val, by omega⟩ := by
  have e : ∀ (x : Vec Ideal S256x1024 .f32) (g b : Vec Ideal S1x1024 .f32) (W : Vec Ideal S1024x3072 .f32)
      (bias : Vec Ideal S1x3072 .f32), k0_pay2 x g b W bias (ix2 r j)
      = k0_pay1 x g b W bias (ix2 r ⟨j.val, by omega⟩) := fun x g b W bias => by
    unfold k0_pay2
    generalize k0_pay1 x g b W bias = p
    pointwise []
  rw [e, project_apply]
  pointwise [r0_0, r0_1, r0_2, r0_3]

/-- The keys and values of a block. -/
theorem keysValues_apply (r : Fin 256) (j : Fin 2048) :
    k0_pay3 (View.ld x r0_0) (View.ld g r0_1) (View.ld b r0_1) (View.ld W r0_2) (View.ld bias r0_3) (ix2 r j)
      = Spec.project (fun d => x (ix2 r d)) (fun d => g (ix2 0 d)) (fun d => b (ix2 0 d))
      (fun d j => W (ix2 d j)) (fun j => bias (ix2 0 j)) ⟨1024 + j.val, by omega⟩ := by
  have e : ∀ (x : Vec Ideal S256x1024 .f32) (g b : Vec Ideal S1x1024 .f32) (W : Vec Ideal S1024x3072 .f32)
      (bias : Vec Ideal S1x3072 .f32), k0_pay3 x g b W bias (ix2 r j)
      = k0_pay1 x g b W bias (ix2 r ⟨1024 + j.val, by omega⟩) := fun x g b W bias => by
    unfold k0_pay3
    generalize k0_pay1 x g b W bias = p
    pointwise []
  rw [e, project_apply]
  pointwise [r0_0, r0_1, r0_2, r0_3]

end Cert.Proof.ProjectRead

end
-- ==== Proof.Heads.lean ====
/-
  What one block of the attention call computes, in one vocabulary for all sixteen heads and all sixteen selection
  steps, at any float instance.

  The printed body writes the sixteen heads out one after another, cut into parts. Here a head is a function of its
  number: the columns of the query block (`qPart`), the columns of the keys and of the values it reads (`kRect`,
  `vRect`), its probabilities (`probs`) and its output (`headOut`). The two results of a block are then the message
  (`message`) and the column of picked positions (`picks`); `out_message` and `out_picks` say that these are what the
  body stores.
-/
module

public import proofs.«01_k».proof.Proof.Gen.KernelIdeal.Frame

@[expose] public section

noncomputable section

namespace Cert.Proof.Heads

open Idealize.ShloMosaic Idealize.ShloMosaic.Pipeline Cert.KernelIdeal Cert.KernelIdeal.Gen

variable {F : FTy → Type} [FloatOps F]

theorem slices_head (h : Fin 16) : S256x1024.Slices ![0, 64 * h.val] S256x64 := by revert h; decide

theorem inb_keys (h : Fin 16) : ∀ a, (![0, 64 * h.val] : Fin 2 → Nat) a + S2048x64.size a ≤ S2048x2048.size a := by
  revert h; decide

theorem inb_values (h : Fin 16) : ∀ a, (![0, 1024 + 64 * h.val] : Fin 2 → Nat) a + S2048x64.size a ≤ S2048x2048.size a := by
  revert h; decide

/-- The columns of the query block that head `h` reads. -/
def qPart (x : FVec F S256x1024 .f32) (h : Fin 16) : FVec F S256x64 .f32 :=
  extractStridedSlice S256x64 ![0, 64 * h.val] x (slices_head h)

/-- The columns of the keys-and-values array that hold head `h`'s keys. -/
def kRect (h : Fin 16) : Rect S2048x2048 := Rect.unit (s := S2048x2048) ![0, 64 * h.val] S2048x64.size (inb_keys h)

/-- The columns of the keys-and-values array that hold head `h`'s values. -/
def vRect (h : Fin 16) : Rect S2048x2048 := Rect.unit (s := S2048x2048) ![0, 1024 + 64 * h.val] S2048x64.size (inb_values h)

/-- A head's scaled scores: queries times keys, times one eighth. -/
def scores (q : FVec F S256x64 .f32) (k : FVec F S2048x64 .f32) : FVec F S256x2048 .f32 :=
  mulf (matmul dot_S256x64_S2048x64_S256x2048_1_1_0_0_n_n none q k (constant S256x2048 .f32 0x00000000#32))
    (broadcast S256x2048 (Scalar.ofBits .f32 0x3E000000#32))

/-- The maximum of every row, repeated along the row. -/
def rowMaxes (w : FVec F S256x2048 .f32) : FVec F S256x2048 .f32 :=
  broadcastTo S256x2048 (shapeCast S256x1
    (multiReduction .maximumf [1] S256 w 0xFF800000#32 reduces_S256x2048_S256 (.inl rfl) rfl) shapeCasts_S256_S256x1)
    broadcasts_S256x1_S256x2048

/-- The sum of every row, repeated along the row. -/
def rowSums (w : FVec F S256x2048 .f32) : FVec F S256x2048 .f32 :=
  broadcastTo S256x2048 (shapeCast S256x1
    (multiReduction .add [1] S256 w 0x00000000#32 reduces_S256x2048_S256 (.inl rfl) rfl) shapeCasts_S256_S256x1)
    broadcasts_S256x1_S256x2048

/-- The exponentials of a score array, each row reduced by its maximum. -/
def weights (s : FVec F S256x2048 .f32) : FVec F S256x2048 .f32 := exp (subf s (rowMaxes s))

/-- The softmax of every row. -/
def softmax (s : FVec F S256x2048 .f32) : FVec F S256x2048 .f32 := divf (weights s) (rowSums (weights s))

/-- Head `h`'s probabilities. -/
def probs (x0 : Vec F S256x1024 .f32) (x1 : Vec F S2048x2048 .f32) (h : Fin 16) : FVec F S256x2048 .f32 :=
  softmax (scores (qPart (shapeCast S256x1024 (View.ld x0 r1_0) shapeCasts_S256x1024_S256x1024) h)
    (shapeCast S2048x64 (View.ld x1 (kRect h)) shapeCasts_S2048x64_S2048x64))

/-- Head `h`'s output: its probabilities times its values. -/
def headOut (x0 : Vec F S256x1024 .f32) (x1 : Vec F S2048x2048 .f32) (h : Fin 16) : FVec F S256x64 .f32 :=
  matmul dot_S256x2048_S2048x64_S256x64_1_0_0_1_n_n none (probs x0 x1 h)
    (shapeCast S2048x64 (View.ld x1 (vRect h)) shapeCasts_S2048x64_S2048x64) (constant S256x64 .f32 0x00000000#32)

/-- The sum of arrays one per head, added from the first to the last. -/
def sumHeads {s : Shape} (p : Fin 16 → FVec F s .f32) : FVec F s .f32 :=
  addf (addf (addf (addf (addf (addf (addf (addf (addf (addf (addf (addf (addf (addf (addf
    (p 0) (p 1)) (p 2)) (p 3)) (p 4)) (p 5)) (p 6)) (p 7)) (p 8)) (p 9)) (p 10)) (p 11)) (p 12)) (p 13)) (p 14)) (p 15)

theorem concat_heads {α : Type} (g : Fin 16 → S256x64.Idx → α) :
    Shape.Concatenates ((List.ofFn fun h => (⟨S256x64, g h⟩ : (s : Shape) × (s.Idx → α))).map (·.1)) S256x1024 1 :=
  (by decide : Shape.Concatenates (List.replicate 16 S256x64) S256x1024 1)

/-- The message block: the heads' outputs side by side, projected, plus the bias, plus the value rows. -/
def message (x0 : Vec F S256x1024 .f32) (x1 : Vec F S2048x2048 .f32) (x2 : Vec F S256x1024 .f32)
    (x3 : Vec F S1024x1024 .f32) (x4 : Vec F S1x1024 .f32) : FVec F S256x1024 .f32 :=
  addf (addf (matmul dot_S256x1024_S1024x1024_S256x1024_1_0_0_1_n_n none
      (concatenate S256x1024 1 (List.ofFn fun h : Fin 16 => ⟨S256x64, headOut x0 x1 h⟩) (concat_heads _)) (View.ld x3 r1_33)
      (constant S256x1024 .f32 0x00000000#32))
    (broadcastTo S256x1024 (shapeCast S1x1024 (View.ld x4 r1_34) shapeCasts_S1x1024_S1x1024) broadcasts_S1x1024_S256x1024))
    (shapeCast S256x1024 (View.ld x2 r1_0) shapeCasts_S256x1024_S256x1024)

theorem out_message (x0 : Vec F S256x1024 .f32) (x1 : Vec F S2048x2048 .f32) (x2 : Vec F S256x1024 .f32)
    (x3 : Vec F S1024x1024 .f32) (x4 : Vec F S1x1024 .f32) :
    out1_5 x0 x1 x2 x3 x4 = View.canon [⟨r1_0, message x0 x1 x2 x3 x4⟩] := rfl

/-- The total probability of every key: the heads' probabilities added up. -/
def total (x0 : Vec F S256x1024 .f32) (x1 : Vec F S2048x2048 .f32) : FVec F S256x2048 .f32 := sumHeads (probs x0 x1)

/-- The position of every column. -/
def positions : IVec S256x2048 32 := iota .tc S256x2048 32 [1] iota_S256x2048_d1_w32

/-- Every row's first position of the maximum, one per row. -/
def pickRow (w : FVec F S256x2048 .f32) : IVec S256 32 :=
  multiReductionI .minsi [1] S256 (select (cmpf .oeq w (rowMaxes w)) positions (broadcast S256x2048 2048#32))
    2147483647#32 reduces_S256x2048_S256 rfl

/-- The same as a column. -/
def pickCol (w : FVec F S256x2048 .f32) : IVec S256x1 32 := shapeCast S256x1 (pickRow w) shapeCasts_S256_S256x1

/-- The array with the picked entry of every row struck out. -/
def strikeOut (w : FVec F S256x2048 .f32) : FVec F S256x2048 .f32 :=
  select (cmpi .eq positions (broadcastTo S256x2048 (pickCol w) broadcasts_S256x1_S256x2048))
    (broadcast S256x2048 (Scalar.ofBits .f32 0xFF800000#32)) w

theorem concat_picks {α : Type} (g : Fin 16 → S256x1.Idx → α) :
    Shape.Concatenates ((List.ofFn fun k => (⟨S256x1, g k⟩ : (s : Shape) × (s.Idx → α))).map (·.1)) S256x16 1 :=
  (by decide : Shape.Concatenates (List.replicate 16 S256x1) S256x16 1)

/-- The picked positions of sixteen steps on an array, side by side. -/
def picks (w : FVec F S256x2048 .f32) : IVec S256x16 32 :=
  concatenate S256x16 1 (List.ofFn fun k : Fin 16 => ⟨S256x1, pickCol (strikeOut^[k.val] w)⟩) (concat_picks _)

section Steps

/-! The printed steps: every stage of the body is `pickCol` or `strikeOut` of the stage before it. -/

variable (w : FVec F S256x2048 .f32) (e : IVec S256x2048 1) (c : BitVec 32) (m : FVec F S256 .f32) (z : F .f32)
  (r : IVec S256 32)

theorem iterate_zero' : w = strikeOut^[0] w := rfl

theorem iterate_step (n : Nat) : strikeOut (strikeOut^[n] w) = strikeOut^[n + 1] w :=
  (Function.iterate_succ_apply' strikeOut n w).symm

/-- The first four steps, from the total. -/
theorem steps_a : k1_pay51 positions (cmpf .oeq w (rowMaxes w)) 2048#32 = pickCol (strikeOut^[0] w)
    ∧ k1_pay53 w positions (cmpf .oeq w (rowMaxes w)) 2048#32 = pickCol (strikeOut^[1] w)
    ∧ k1_pay55 w positions (cmpf .oeq w (rowMaxes w)) 2048#32 = pickCol (strikeOut^[2] w)
    ∧ k1_pay57 w positions (cmpf .oeq w (rowMaxes w)) 2048#32 = pickCol (strikeOut^[3] w)
    ∧ k1_pay58 w positions (cmpf .oeq w (rowMaxes w)) 2048#32 = strikeOut^[4] w := by
  have h1 : k1_pay52 w positions (cmpf .oeq w (rowMaxes w)) 2048#32 = strikeOut^[1] w := by rw [← iterate_step, ← iterate_zero']; rfl
  have h2 : k1_pay54 w positions (cmpf .oeq w (rowMaxes w)) 2048#32 = strikeOut^[2] w := by
    rw [← iterate_step, ← h1]; rfl
  have h3 : k1_pay56 w positions (cmpf .oeq w (rowMaxes w)) 2048#32 = strikeOut^[3] w := by
    rw [← iterate_step, ← h2]; rfl
  refine ⟨rfl, ?_, ?_, ?_, ?_⟩
  · rw [← h1]; rfl
  · rw [← h2]; rfl
  · rw [← h3]; rfl
  · rw [← iterate_step, ← h3]; rfl

/-- The row maxima of an array, one per row. -/
def maxRow : FVec F S256 .f32 := multiReduction .maximumf [1] S256 w 0xFF800000#32 reduces_S256x2048_S256 (.inl rfl) rfl

/-- The next four steps, from any array and its row maxima. -/
theorem steps_b : k1_pay60 positions w (maxRow w) = pickCol (strikeOut^[0] w)
    ∧ k1_pay62 positions w (maxRow w) = pickCol (strikeOut^[1] w)
    ∧ k1_pay64 positions w (maxRow w) = pickCol (strikeOut^[2] w)
    ∧ k1_pay66 positions w (maxRow w) = pickCol (strikeOut^[3] w)
    ∧ k1_pay65 positions w (maxRow w) = strikeOut^[3] w
    ∧ k1_pay68 (k1_pay65 positions w (maxRow w)) (k1_pay67 positions w (maxRow w)) (Scalar.ofBits .f32 0xFF800000#32)
        = strikeOut^[4] w := by
  have h1 : k1_pay61 positions w (maxRow w) = strikeOut^[1] w := by rw [← iterate_step, ← iterate_zero']; rfl
  have h2 : k1_pay63 positions w (maxRow w) = strikeOut^[2] w := by
    rw [← iterate_step, ← h1]; rfl
  have h3 : k1_pay65 positions w (maxRow w) = strikeOut^[3] w := by
    rw [← iterate_step, ← h2]; rfl
  refine ⟨rfl, ?_, ?_, ?_, h3, ?_⟩
  · rw [← h1]; rfl
  · rw [← h2]; rfl
  · rw [← h3]; rfl
  · rw [← iterate_step, ← h3]; rfl

/-- The next three steps, from any array `w` that the first select of the part computes. -/
theorem steps_c (v : FVec F S256x2048 .f32) (h : k1_pay68 v e z = w) : k1_pay69 positions v e z = pickCol (strikeOut^[0] w)
    ∧ k1_pay71 positions v e z = pickCol (strikeOut^[1] w)
    ∧ k1_pay73 positions v e z = pickCol (strikeOut^[2] w)
    ∧ k1_pay74 positions v e z = strikeOut^[3] w
    ∧ k1_pay75 positions v e z = pickRow (strikeOut^[3] w) := by
  have h0 : k1_pay69 positions v e z = pickCol (strikeOut^[0] w) := by rw [← iterate_zero', ← h]; rfl
  have h1 : k1_pay70 positions v e z = strikeOut^[1] w := by rw [← iterate_step, ← iterate_zero', ← h]; rfl
  have h2 : k1_pay72 positions v e z = strikeOut^[2] w := by rw [← iterate_step, ← h1]; rfl
  have h3 : k1_pay74 positions v e z = strikeOut^[3] w := by rw [← iterate_step, ← h2]; rfl
  refine ⟨h0, ?_, ?_, h3, ?_⟩
  · rw [← h1]; rfl
  · rw [← h2]; rfl
  · rw [← h3]; rfl

/-- The last five steps, from any array and its picked positions. -/
theorem steps_d : k1_pay76 (pickRow w) = pickCol (strikeOut^[0] w)
    ∧ k1_pay78 positions w (pickRow w) = pickCol (strikeOut^[1] w)
    ∧ k1_pay80 positions w (pickRow w) = pickCol (strikeOut^[2] w)
    ∧ k1_pay82 positions w (pickRow w) = pickCol (strikeOut^[3] w)
    ∧ shapeCast S256x1 (multiReductionI .minsi [1] S256
        (k1_pay1 positions (k1_pay83 positions w (pickRow w)) 2048#32) 2147483647#32 reduces_S256x2048_S256 rfl)
        shapeCasts_S256_S256x1 = pickCol (strikeOut^[4] w) := by
  have h1 : k1_pay77 positions w (pickRow w) = strikeOut^[1] w := by rw [← iterate_step, ← iterate_zero']; rfl
  have h2 : k1_pay79 positions w (pickRow w) = strikeOut^[2] w := by rw [← iterate_step, ← h1]; rfl
  have h3 : k1_pay81 positions w (pickRow w) = strikeOut^[3] w := by rw [← iterate_step, ← h2]; rfl
  refine ⟨rfl, ?_, ?_, ?_, ?_⟩
  · rw [← h1]; rfl
  · rw [← h2]; rfl
  · rw [← h3]; rfl
  · rw [← iterate_step, ← h3]; rfl

end Steps

theorem concatenate_congr {α : Type} {t : Shape} {a : Fin t.rank} {xs ys : List ((s : Shape) × (s.Idx → α))}
    (h : Shape.Concatenates (xs.map (·.1)) t a) (e : xs = ys) :
    concatenate t a xs h = concatenate t a ys (e ▸ h) := by subst e; rfl

theorem iterate_add (w : FVec F S256x2048 .f32) (m n : Nat) : strikeOut^[m] (strikeOut^[n] w) = strikeOut^[m + n] w :=
  (Function.iterate_add_apply strikeOut m n w).symm

theorem out_picks (x0 : Vec F S256x1024 .f32) (x1 : Vec F S2048x2048 .f32) (x2 : Vec F S256x1024 .f32)
    (x3 : Vec F S1024x1024 .f32) (x4 : Vec F S1x1024 .f32) :
    out1_6 x0 x1 x2 x3 x4 = View.canon [⟨r1_35, picks (total x0 x1)⟩] := by
  have e93 : k1_pay93 x0 x1 x2 x3 x4 = positions := rfl
  have e94 : k1_pay94 x0 x1 x2 x3 x4 = total x0 x1 := rfl
  have e95 : k1_pay95 x0 x1 x2 x3 x4 = cmpf .oeq (total x0 x1) (rowMaxes (total x0 x1)) := rfl
  generalize total x0 x1 = w at e94 e95
  obtain ⟨a0, a1, a2, a3, a4⟩ := steps_a w
  have e96 : k1_pay96 x0 x1 x2 x3 x4 = strikeOut^[4] w := by unfold k1_pay96; rw [e93, e94, e95, a4]
  have e97 : k1_pay97 x0 x1 x2 x3 x4 = maxRow (strikeOut^[4] w) := by
    unfold k1_pay97; rw [e93, e94, e95, ← a4]; rfl
  obtain ⟨b0, b1, b2, b3, b4, b5⟩ := steps_b (strikeOut^[4] w)
  have e98 : k1_pay98 x0 x1 x2 x3 x4 = k1_pay65 positions (strikeOut^[4] w) (maxRow (strikeOut^[4] w)) := by
    unfold k1_pay98; rw [e93, e96, e97]
  have e99 : k1_pay99 x0 x1 x2 x3 x4 = k1_pay67 positions (strikeOut^[4] w) (maxRow (strikeOut^[4] w)) := by
    unfold k1_pay99; rw [e93, e96, e97]
  rw [← e98, ← e99, iterate_add] at b5
  obtain ⟨c0, c1, c2, c3, c4⟩ := steps_c _ _ _ _ b5
  rw [iterate_add] at c0 c1 c2 c3 c4
  have e100 : k1_pay100 x0 x1 x2 x3 x4 = strikeOut^[11] w := by unfold k1_pay100; rw [e93, c3]
  have e101 : k1_pay101 x0 x1 x2 x3 x4 = pickRow (strikeOut^[11] w) := by unfold k1_pay101; rw [e93, c4]
  obtain ⟨d0, d1, d2, d3, d4⟩ := steps_d (strikeOut^[11] w)
  rw [iterate_add] at b0 b1 b2 b3 d0 d1 d2 d3 d4
  unfold out1_6 k1_pay2
  refine congrArg (fun v => View.canon [⟨r1_35, v⟩]) (concatenate_congr _ ?_)
  simp only [e93, e94, e95, e96, e97, e100, e101, a0, a1, a2, a3, b0, b1, b2, b3, c0, c1, c2, d0, d1, d2, d3, d4,
    List.ofFn_succ, List.ofFn_zero]
  rfl

end Cert.Proof.Heads

end
-- ==== Proof.HeadsRead.lean ====
/-
  A block of the attention call read at an index, at the ideal instance: the head's probabilities, its output, the
  message and the picked positions of row `r` are the functions of `Proof/Spec.lean` of that row of queries.
-/
module

public import Idealize.ShloMosaic.Lib.Pointwise
public import proofs.«01_k».proof.Proof.Spec
public import proofs.«01_k».proof.Proof.Heads

@[expose] public section

set_option maxRecDepth 16384

noncomputable section

namespace Cert.Proof.HeadsRead

open Idealize.ShloMosaic Idealize.ShloMosaic.Pipeline Cert.KernelIdeal Cert.KernelIdeal.Gen Cert.Proof.Heads

variable (x0 : Vec Ideal S256x1024 .f32) (x1 : Vec Ideal S2048x2048 .f32)

/-- Row `r` of a block. -/
abbrev row {m n : Nat} {α : Type} (x : (⟨2, ![m, n]⟩ : Shape).Idx → α) (r : Fin m) : Fin n → α := fun j => x (ix2 r j)

theorem ofBits_neg_inf : Ideal.ofBits .f32 0xFF800000#32 = ⊥ := by
  simp [Ideal.ofBits, Ideal.ieee]

theorem qPart_apply (x : FVec Ideal S256x1024 .f32) (h : Fin 16) (r : Fin 256) (c : Fin 64) :
    qPart x h (ix2 r c) = x (ix2 r (Spec.col h c)) := by
  pointwise [qPart]
  rfl

theorem qLoad (r : Fin 256) (j : Fin 1024) :
    shapeCast S256x1024 (View.ld x0 r1_0) shapeCasts_S256x1024_S256x1024 (ix2 r j) = x0 (ix2 r j) := by
  pointwise [r1_0]

theorem kPart_apply (h : Fin 16) (t : Fin 2048) (c : Fin 64) :
    shapeCast S2048x64 (View.ld x1 (kRect h)) shapeCasts_S2048x64_S2048x64 (ix2 t c)
      = x1 (ix2 t (Spec.keyCol h c)) := by
  pointwise [kRect]
  rfl

theorem vPart_apply (h : Fin 16) (t : Fin 2048) (c : Fin 64) :
    shapeCast S2048x64 (View.ld x1 (vRect h)) shapeCasts_S2048x64_S2048x64 (ix2 t c)
      = x1 (ix2 t (Spec.valueCol h c)) := by
  pointwise [vRect]
  rfl

theorem scores_apply (q : FVec Ideal S256x64 .f32) (k : FVec Ideal S2048x64 .f32) (r : Fin 256) (t : Fin 2048) :
    scores q k (ix2 r t) = (∑ c : Fin 64, q (ix2 r c) * k (ix2 t c)) * Spec.eighth := by
  pointwise [scores, Spec.eighth]

theorem rowMaxes_apply (w : FVec Ideal S256x2048 .f32) (r : Fin 256) (t : Fin 2048) :
    rowMaxes w (ix2 r t) = Ranking.rowMax (row w r) := by
  pointwise [rowMaxes, Ranking.rowMax]
  rw [ofBits_neg_inf]

theorem rowSums_apply (w : FVec Ideal S256x2048 .f32) (r : Fin 256) (t : Fin 2048) :
    rowSums w (ix2 r t) = ∑ u : Fin 2048, w (ix2 r u) := by
  pointwise [rowSums]

theorem softmax_apply (w : FVec Ideal S256x2048 .f32) (r : Fin 256) (t : Fin 2048) :
    softmax w (ix2 r t) = Spec.soft (row w r) t := by
  have hw : ∀ u, weights w (ix2 r u) = Ideal.exp (w (ix2 r u) - Ranking.rowMax (row w r)) := fun u => by
    rw [← rowMaxes_apply w r u]; rfl
  have h : softmax w (ix2 r t) = Ideal.div (weights w (ix2 r t)) (rowSums (weights w) (ix2 r t)) := rfl
  rw [h, rowSums_apply, hw]
  simp only [hw]
  rfl

/-- Head `h`'s probabilities in row `r`. -/
theorem probs_apply (h : Fin 16) (r : Fin 256) (t : Fin 2048) :
    probs x0 x1 h (ix2 r t) = Spec.prob (row x0 r) (fun t j => x1 (ix2 t j)) h t := by
  unfold probs
  rw [softmax_apply]
  refine congrFun (congrArg Spec.soft (funext fun u => ?_)) t
  rw [row, scores_apply]
  exact congrArg (· * Spec.eighth) (Finset.sum_congr rfl fun c _ => congrArg₂ (· * ·)
    ((qPart_apply _ h r c).trans (qLoad x0 r (Spec.col h c))) (kPart_apply x1 h u c))

/-- Head `h`'s output in row `r`. -/
theorem headOut_apply (h : Fin 16) (r : Fin 256) (c : Fin 64) :
    headOut x0 x1 h (ix2 r c) = Spec.head (row x0 r) (fun t j => x1 (ix2 t j)) h c := by
  have e : headOut x0 x1 h (ix2 r c) = ∑ t : Fin 2048, probs x0 x1 h (ix2 r t)
      * shapeCast S2048x64 (View.ld x1 (vRect h)) shapeCasts_S2048x64_S2048x64 (ix2 t c) := by
    unfold headOut
    generalize probs x0 x1 h = p
    generalize shapeCast S2048x64 (View.ld x1 (vRect h)) shapeCasts_S2048x64_S2048x64 = v
    pointwise []
  rw [e]
  exact Finset.sum_congr rfl fun t _ => congrArg₂ (· * ·) (probs_apply x0 x1 h r t) (vPart_apply x1 h t c)

/-- The total probability of key `t` in row `r`. -/
theorem total_apply (r : Fin 256) (t : Fin 2048) :
    Heads.total x0 x1 (ix2 r t) = Spec.total (row x0 r) (fun t j => x1 (ix2 t j)) t := by
  unfold Heads.total sumHeads Spec.total
  simp only [addf_apply, Ideal.addf_def, probs_apply, Fin.sum_univ_succ, Fin.sum_univ_zero, add_assoc, add_zero]
  rfl

theorem concat_apply {α : Type} (g : Fin 16 → S256x64.Idx → α) (r : Fin 256) (d : Fin 1024) :
    concatenate S256x1024 1 (List.ofFn fun h => (⟨S256x64, g h⟩ : (s : Shape) × (s.Idx → α))) (concat_heads g) (ix2 r d)
      = g (Spec.headOf d) (ix2 r (Spec.within d)) :=
  concatenate_ofFn_apply (t := S256x1024) 1 g (concat_heads g) rfl 64 rfl (ix2 r d) (Spec.headOf d) rfl
    (ix2 r (Spec.within d)) rfl fun b hb => by
      match b, hb with
      | ⟨0, _⟩, _ => rfl
      | ⟨1, _⟩, hb => exact absurd rfl hb

theorem concat_picks_apply {α : Type} (g : Fin 16 → S256x1.Idx → α) (r : Fin 256) (k : Fin 16) :
    concatenate S256x16 1 (List.ofFn fun h => (⟨S256x1, g h⟩ : (s : Shape) × (s.Idx → α))) (concat_picks g) (ix2 r k)
      = g k (ix2 r 0) :=
  concatenate_ofFn_unit_apply (t := S256x16) 1 g (concat_picks g) rfl rfl (ix2 r k) k rfl (ix2 r 0) fun b hb => by
    match b, hb with
    | ⟨0, _⟩, _ => rfl
    | ⟨1, _⟩, hb => exact absurd rfl hb

/-- The message of row `r`. -/
theorem message_apply (x2 : Vec Ideal S256x1024 .f32) (x3 : Vec Ideal S1024x1024 .f32) (x4 : Vec Ideal S1x1024 .f32)
    (r : Fin 256) (j : Fin 1024) :
    Heads.message x0 x1 x2 x3 x4 (ix2 r j) = Spec.message (row x0 r) (fun t j => x1 (ix2 t j))
      (fun d j => x3 (ix2 d j)) (row x4 0) (row x2 r) j := by
  have e : Heads.message x0 x1 x2 x3 x4 (ix2 r j) = (∑ d : Fin 1024,
      concatenate S256x1024 1 (List.ofFn fun h : Fin 16 => ⟨S256x64, headOut x0 x1 h⟩) (concat_heads _) (ix2 r d)
        * x3 (ix2 d j)) + x4 (ix2 0 j) + x2 (ix2 r j) := by
    unfold Heads.message
    generalize concatenate S256x1024 1 _ _ = p
    pointwise [r1_0, r1_33, r1_34]
  rw [e]
  simp only [concat_apply, headOut_apply]
  rfl

/-- The picked position of row `r`. -/
theorem pickRow_apply (w : FVec Ideal S256x2048 .f32) (r : Fin 256) :
    pickRow w (ix1 r) = Ranking.pick (row w r) := by
  pointwise [pickRow, positions]
  unfold Ranking.pick
  refine Finset.fold_congr fun t _ => ?_
  rw [rowMaxes_apply]
  by_cases h : w (ix2 r t) = Ranking.rowMax (row w r) <;> simp [h, Scalar.select, Ideal.cmp, row]

theorem pickCol_apply (w : FVec Ideal S256x2048 .f32) (r : Fin 256) (t : Fin 1) :
    pickCol w (ix2 r t) = Ranking.pick (row w r) := by
  rw [← pickRow_apply]
  pointwise [pickCol]

theorem strikeOut_row (w : FVec Ideal S256x2048 .f32) (r : Fin 256) : row (strikeOut w) r = Ranking.strike (row w r) := by
  funext t
  have e : strikeOut w (ix2 r t) = Scalar.select (IntOp.cmpi .eq (positions (ix2 r t)) (pickCol w (ix2 r 0)))
      (Ideal.ofBits .f32 0xFF800000#32) (w (ix2 r t)) := by
    unfold strikeOut
    generalize pickCol w = v
    pointwise []
  rw [row, e, pickCol_apply, ofBits_neg_inf]
  pointwise [positions]
  rfl

/-- The picked positions of row `r`. -/
theorem picks_apply (r : Fin 256) (k : Fin 16) :
    picks (Heads.total x0 x1) (ix2 r k) = Spec.picked (row x0 r) (fun t j => x1 (ix2 t j)) k.val := by
  unfold picks
  rw [concat_picks_apply, pickCol_apply]
  have h : ∀ n : Nat, row (strikeOut^[n] (Heads.total x0 x1)) r
      = Ranking.strike^[n] (Spec.total (row x0 r) (fun t j => x1 (ix2 t j))) := fun n => by
    induction n with
    | zero => exact funext fun t => total_apply x0 x1 r t
    | succ n ih => rw [Function.iterate_succ_apply', Function.iterate_succ_apply', strikeOut_row, ih]
  rw [h]
  rfl

end Cert.Proof.HeadsRead

end
-- ==== Proof.Arrays.lean ====
/-
  What the result arrays of both calls hold when the call ends, at any contents `V` of the buffers at its start: every
  element is the function of `Proof/Spec.lean` of the rows of the input arrays.
-/
module

public import proofs.«01_k».proof.Proof.Placing
public import proofs.«01_k».proof.Proof.ProjectRead
public import proofs.«01_k».proof.Proof.HeadsRead

@[expose] public section

set_option maxRecDepth 16384

noncomputable section

namespace Cert.Proof.Arrays

open Idealize.ShloMosaic Idealize.ShloMosaic.TcCoe Idealize.ShloMosaic.Pipeline Idealize.SL.Sem
open Cert.KernelIdeal Cert.KernelIdeal.Gen Cert.Proof.Placing

/-- The contents of the buffers when a call starts. -/
abbrev Contents := (c : Dev nD) → (b : Ref sig .tc) → Buf (Elt Ideal) ((c : Thread nD τ).loc b)

variable (V : Contents) (c : Dev nD)

/-- Column `j` of row `r`'s queries, keys and values. -/
def qkv (r : Fin 2048) (j : Fin 3072) : EReal :=
  Spec.project (fun d => (V c main_arg0 : FVec Ideal S2048x1024 .f32) (ix2 r d))
    (fun d => (V c main_v1 : FVec Ideal S1x1024 .f32) (ix2 0 d)) (fun d => (V c main_v2 : FVec Ideal S1x1024 .f32) (ix2 0 d))
    (fun d j => (V c main_arg1 : FVec Ideal S1024x3072 .f32) (ix2 d j))
    (fun j => (V c main_v0 : FVec Ideal S1x3072 .f32) (ix2 0 j)) j

/-- The array of queries. -/
def queries : FVec Ideal S2048x1024 .f32 := fun i => qkv V c (i 0) ⟨(i 1).val, by have : (i 1).val < 1024 := (i 1).isLt; omega⟩

/-- The array of keys and values. -/
def keysValues : FVec Ideal S2048x2048 .f32 :=
  fun i => qkv V c (i 0) ⟨1024 + (i 1).val, by have : (i 1).val < 2048 := (i 1).isLt; omega⟩

theorem hz : (![0, 0] : Fin 2 → Nat) = fun _ => 0 := funext fun a => by fin_cases a <;> rfl

theorem flushed0_5 (t : Fin cfg0.N) :
    (dat0 V c).flushed 5 t = ((cfg0.win 5).blk t).view.read (Elt Ideal) (queries V c) := by
  show (cfg0.win 5).cut (grid0.coords t) ((dat0 V c).after 5 t) = _
  rw [after0_5]
  unfold out0_5
  rw [View.canon_unit_zero hz]
  funext y
  obtain ⟨r, j, rfl⟩ : ∃ (r : Fin 256) (j : Fin 1024), y = ix2 r j := ⟨y 0, y 1, eq_ix2 y⟩
  refine (ProjectRead.queries_apply _ _ _ _ _ r j).trans ?_
  show _ = queries V c (((cfg0.win 5).blk t).view.emb (ix2 r j))
  rw [emb0_5]
  simp only [blk0_0, blk0_1, blk0_2, blk0_3, blk0_4]
  rfl

/-- The queries' array after the projection call. -/
theorem final0_5 : (dat0 V c).arrAt 5 cfg0.N = queries V c :=
  (dat0 V c).arrAt_eq_of_cover 5 (queries V c) (fun t _ => flushed0_5 V c t) cover0_5

theorem flushed0_6 (t : Fin cfg0.N) :
    (dat0 V c).flushed 6 t = ((cfg0.win 6).blk t).view.read (Elt Ideal) (keysValues V c) := by
  show (cfg0.win 6).cut (grid0.coords t) ((dat0 V c).after 6 t) = _
  rw [after0_6]
  unfold out0_6
  rw [View.canon_unit_zero hz]
  funext y
  obtain ⟨r, j, rfl⟩ : ∃ (r : Fin 256) (j : Fin 2048), y = ix2 r j := ⟨y 0, y 1, eq_ix2 y⟩
  refine (ProjectRead.keysValues_apply _ _ _ _ _ r j).trans ?_
  show _ = keysValues V c (((cfg0.win 6).blk t).view.emb (ix2 r j))
  rw [emb0_6]
  simp only [blk0_0, blk0_1, blk0_2, blk0_3, blk0_4]
  rfl

/-- The array of keys and values after the projection call. -/
theorem final0_6 : (dat0 V c).arrAt 6 cfg0.N = keysValues V c :=
  (dat0 V c).arrAt_eq_of_cover 6 (keysValues V c) (fun t _ => flushed0_6 V c t) cover0_6

/-- Row `r` of the queries the attention call reads. -/
def queryRow (r : Fin 2048) : Fin 1024 → EReal := fun j => (V c main_v3_0 : FVec Ideal S2048x1024 .f32) (ix2 r j)

/-- The keys and values the attention call reads. -/
def kv : Fin 2048 → Fin 2048 → EReal := fun t j => (V c main_v3_1 : FVec Ideal S2048x2048 .f32) (ix2 t j)

/-- The array of messages. -/
def messages : FVec Ideal S2048x1024 .f32 := fun i =>
  Spec.message (queryRow V c (i 0)) (kv V c) (fun d j => (V c main_arg5 : FVec Ideal S1024x1024 .f32) (ix2 d j))
    (fun j => (V c main_v4 : FVec Ideal S1x1024 .f32) (ix2 0 j))
    (fun j => kv V c (i 0) ⟨1024 + j.val, by omega⟩) (i 1)

/-- The array of picked positions. -/
def positions : IVec S2048x16 32 := fun i => Spec.picked (queryRow V c (i 0)) (kv V c) (i 1).val

theorem message_congr {q q' : Fin 1024 → EReal} {k k' : Fin 2048 → Fin 2048 → EReal} {W W' : Fin 1024 → Fin 1024 → EReal}
    {b b' o o' : Fin 1024 → EReal} (hq : q = q') (hk : k = k') (hW : W = W') (hb : b = b') (ho : o = o') (j : Fin 1024) :
    Spec.message q k W b o j = Spec.message q' k' W' b' o' j := by subst hq hk hW hb ho; rfl

theorem picked_congr {q q' : Fin 1024 → EReal} {k k' : Fin 2048 → Fin 2048 → EReal} (hq : q = q') (hk : k = k') (n : Nat) :
    Spec.picked q k n = Spec.picked q' k' n := by subst hq hk; rfl

/-- A block of messages is its block of the array of messages. -/
theorem block1_5 (t : Fin cfg1.N) (r : Fin 256) (j : Fin 1024) :
    Heads.message (iblk1 V c 0 t) (iblk1 V c 1 t) (iblk1 V c 2 t) (iblk1 V c 3 t) (iblk1 V c 4 t) (ix2 r j)
      = messages V c (ix2 (rowAt t.val (lt1 t) r) j) := by
  refine (HeadsRead.message_apply _ _ _ _ _ r j).trans ?_
  exact message_congr (funext fun j => blk1_0 V c t r j) (funext fun u => funext fun j => blk1_1 V c t u j)
    (funext fun d => funext fun j => blk1_3 V c t d j) (funext fun j => blk1_4 V c t 0 j)
    (funext fun j => blk1_2 V c t r j) j

/-- A block of picked positions is its block of the array of picked positions. -/
theorem block1_6 (t : Fin cfg1.N) (r : Fin 256) (k : Fin 16) :
    Heads.picks (Heads.total (iblk1 V c 0 t) (iblk1 V c 1 t)) (ix2 r k)
      = positions V c (ix2 (rowAt t.val (lt1 t) r) k) := by
  refine (HeadsRead.picks_apply _ _ r k).trans ?_
  exact picked_congr (funext fun j => blk1_0 V c t r j) (funext fun u => funext fun j => blk1_1 V c t u j) k.val

section Flushed

attribute [local irreducible] Heads.message Heads.picks messages positions

theorem flushed1_5 (t : Fin cfg1.N) :
    (dat1 V c).flushed 5 t = ((cfg1.win 5).blk t).view.read (Elt Ideal) (messages V c) := by
  show (cfg1.win 5).cut (grid1.coords t) ((dat1 V c).after 5 t) = _
  rw [after1_5, Heads.out_message, View.canon_unit_zero hz]
  funext y
  obtain ⟨r, j, rfl⟩ : ∃ (r : Fin 256) (j : Fin 1024), y = ix2 r j := ⟨y 0, y 1, eq_ix2 y⟩
  exact (block1_5 V c t r j).trans (congrArg (messages V c) (emb1_5 t r j)).symm

theorem flushed1_6 (t : Fin cfg1.N) :
    (dat1 V c).flushed 6 t = ((cfg1.win 6).blk t).view.read (Elt Ideal) (positions V c) := by
  show (cfg1.win 6).cut (grid1.coords t) ((dat1 V c).after 6 t) = _
  rw [after1_6, Heads.out_picks, View.canon_unit_zero hz]
  funext y
  obtain ⟨r, k, rfl⟩ : ∃ (r : Fin 256) (k : Fin 16), y = ix2 r k := ⟨y 0, y 1, eq_ix2 y⟩
  exact (block1_6 V c t r k).trans (congrArg (positions V c) (emb1_6 t r k)).symm

end Flushed

/-- The messages' array after the attention call. -/
theorem final1_5 : (dat1 V c).arrAt 5 cfg1.N = messages V c :=
  (dat1 V c).arrAt_eq_of_cover 5 (messages V c) (fun t _ => flushed1_5 V c t) cover1_5

/-- The array of picked positions after the attention call. -/
theorem final1_6 : (dat1 V c).arrAt 6 cfg1.N = positions V c :=
  (dat1 V c).arrAt_eq_of_cover 6 (positions V c) (fun t _ => flushed1_6 V c t) cover1_6

end Cert.Proof.Arrays

end
-- ==== Proof.KernelRun.lean ====
/-
  The kernel program's run, at the ideal instance: from any memory it ends with the messages and the picked positions
  of `Proof/Spec.lean` in its two result arrays, as functions of the argument arrays, which are unchanged.
-/
module

public import proofs.«01_k».proof.Proof.Arrays
public import Idealize.ShloMosaic.Lib.StableHlo.Run

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

section Args

variable (c : Dev nD)

/-- The points' rows. -/
def X : Fin 2048 → Fin 1024 → EReal := fun r d => (m ((c.tc : Thread nD τ).loc main_arg0) : FVec Ideal S2048x1024 .f32) (ix2 r d)
/-- The projection's weights. -/
def W : Fin 1024 → Fin 3072 → EReal := fun d j => (m ((c.tc : Thread nD τ).loc main_arg1) : FVec Ideal S1024x3072 .f32) (ix2 d j)
/-- The projection's bias. -/
def bias : Fin 3072 → EReal := fun j => (m ((c.tc : Thread nD τ).loc main_arg2) : FVec Ideal S3072 .f32) (ix1 j)
/-- The normalisation's scale. -/
def g : Fin 1024 → EReal := fun d => (m ((c.tc : Thread nD τ).loc main_arg3) : FVec Ideal S1024 .f32) (ix1 d)
/-- The normalisation's shift. -/
def b : Fin 1024 → EReal := fun d => (m ((c.tc : Thread nD τ).loc main_arg4) : FVec Ideal S1024 .f32) (ix1 d)
/-- The output projection's weights. -/
def Wp : Fin 1024 → Fin 1024 → EReal := fun d j => (m ((c.tc : Thread nD τ).loc main_arg5) : FVec Ideal S1024x1024 .f32) (ix2 d j)
/-- The output projection's bias. -/
def bp : Fin 1024 → EReal := fun d => (m ((c.tc : Thread nD τ).loc main_arg6) : FVec Ideal S1024 .f32) (ix1 d)

/-- The array of messages. -/
def messages : FVec Ideal S2048x1024 .f32 := fun i =>
  Spec.messageOf (X m c) (W m c) (bias m c) (g m c) (b m c) (Wp m c) (bp m c) (i 0) (i 1)

/-- The array of picked positions. -/
def positions : IVec S2048x16 32 := fun i => Spec.pickedOf (X m c) (W m c) (bias m c) (g m c) (b m c) (i 0) (i 1).val

/-! What the two calls find in their input arrays. -/

/-- The bias the projection call reads is the argument, as a single row. -/
theorem entry_v0 (j : Fin 3072) : (V1 m ρ c main_v0 : FVec Ideal S1x3072 .f32) (ix2 0 j) = bias m c j := by
  have e : V1 m ρ c main_v0 = shapeCast S1x3072 (m ((c.tc : Thread nD τ).loc main_arg2) : FVec Ideal S3072 .f32) shapeCasts_S3072_S1x3072 := by
    show W1 m ρ c (Proc.devRef .tc main_v0) = _
    unfold W1
    after_results_simp
    rfl
  rw [e]
  pointwise [bias]

/-- The scale the projection call reads is the argument, as a single row. -/
theorem entry_v1 (j : Fin 1024) : (V1 m ρ c main_v1 : FVec Ideal S1x1024 .f32) (ix2 0 j) = g m c j := by
  have e : V1 m ρ c main_v1 = shapeCast S1x1024 (m ((c.tc : Thread nD τ).loc main_arg3) : FVec Ideal S1024 .f32) shapeCasts_S1024_S1x1024 := by
    show W1 m ρ c (Proc.devRef .tc main_v1) = _
    unfold W1
    after_results_simp
    rfl
  rw [e]
  pointwise [g]

/-- The shift the projection call reads is the argument, as a single row. -/
theorem entry_v2 (j : Fin 1024) : (V1 m ρ c main_v2 : FVec Ideal S1x1024 .f32) (ix2 0 j) = b m c j := by
  have e : V1 m ρ c main_v2 = shapeCast S1x1024 (m ((c.tc : Thread nD τ).loc main_arg4) : FVec Ideal S1024 .f32) shapeCasts_S1024_S1x1024 := by
    show W1 m ρ c (Proc.devRef .tc main_v2) = _
    unfold W1
    after_results_simp
    rfl
  rw [e]
  pointwise [b]

/-- The output bias the attention call reads is the argument, as a single row. -/
theorem entry_v4 (j : Fin 1024) : (V3 m ρ c main_v4 : FVec Ideal S1x1024 .f32) (ix2 0 j) = bp m c j := by
  have e : V3 m ρ c main_v4 = shapeCast S1x1024 (W2 m ρ c (Proc.devRef .tc main_arg6) : FVec Ideal S1024 .f32) shapeCasts_S1024_S1x1024 := by
    show W3 m ρ c (Proc.devRef .tc main_v4) = _
    unfold W3
    after_results_simp
    rfl
  rw [e, W2_args m ρ c main_arg6 (by decide)]
  pointwise [bp]

theorem project_congr {x x' g g' b b' : Fin 1024 → EReal} {W W' : Fin 1024 → Fin 3072 → EReal} {s s' : Fin 3072 → EReal}
    (hx : x = x') (hg : g = g') (hb : b = b') (hW : W = W') (hs : s = s') (j : Fin 3072) :
    Spec.project x g b W s j = Spec.project x' g' b' W' s' j := by subst hx hg hb hW hs; rfl

/-- The projection call computes the projections of the arguments' rows. -/
theorem qkv_eq (r : Fin 2048) (j : Fin 3072) :
    Arrays.qkv (V1 m ρ) c r j = Spec.project (X m c r) (g m c) (b m c) (W m c) (bias m c) j :=
  project_congr
    (funext fun d => congrFun (W1_args m ρ c main_arg0 (by decide)) (ix2 r d))
    (funext fun d => entry_v1 m ρ c d) (funext fun d => entry_v2 m ρ c d)
    (funext fun d => funext fun j => congrFun (W1_args m ρ c main_arg1 (by decide)) (ix2 d j))
    (funext fun j => entry_v0 m ρ c j) j

/-- The queries the attention call reads. -/
theorem queryRow_eq (r : Fin 2048) :
    Arrays.queryRow (V3 m ρ) c r = Spec.queryOf (X m c) (W m c) (bias m c) (g m c) (b m c) r := by
  funext j
  have e : V3 m ρ c main_v3_0 = Arrays.queries (V1 m ρ) c :=
    ((W3_of m ρ c main_v3_0 (by decide)).trans (W2_arr m ρ c 5)).trans (Arrays.final0_5 (V1 m ρ) c)
  exact (congrFun e (ix2 r j)).trans (qkv_eq m ρ c r _)

/-- The keys and values the attention call reads. -/
theorem kv_eq : Arrays.kv (V3 m ρ) c = Spec.kvOf (X m c) (W m c) (bias m c) (g m c) (b m c) := by
  funext t j
  have e : V3 m ρ c main_v3_1 = Arrays.keysValues (V1 m ρ) c :=
    ((W3_of m ρ c main_v3_1 (by decide)).trans (W2_arr m ρ c 6)).trans (Arrays.final0_6 (V1 m ρ) c)
  exact (congrFun e (ix2 t j)).trans (qkv_eq m ρ c t _)

/-- The first result array ends with the messages. -/
theorem end_messages : W4 m ρ c main_v5_0 = messages m c := by
  refine ((W4_arr m ρ c 5).trans (Arrays.final1_5 (V3 m ρ) c)).trans (funext fun i => ?_)
  exact Arrays.message_congr (queryRow_eq m ρ c (i 0)) (kv_eq m ρ c)
    (funext fun d => funext fun j => congrFun (W3_args m ρ c main_arg5 (by decide)) (ix2 d j))
    (funext fun j => entry_v4 m ρ c j)
    (funext fun j => congrFun (congrFun (kv_eq m ρ c) (i 0)) _) (i 1)

/-- The second result array ends with the picked positions. -/
theorem end_positions : W4 m ρ c main_v5_1 = positions m c := by
  refine ((W4_arr m ρ c 6).trans (Arrays.final1_6 (V3 m ρ) c)).trans (funext fun i => ?_)
  exact Arrays.picked_congr (queryRow_eq m ρ c (i 0)) (kv_eq m ρ c) (i 1).val

end Args

set_option backward.isDefEq.respectTransparency.types false in
/-- Every run of the kernel program ends with every buffer at what the two calls and the operations before them leave. -/
theorem ends : θ_run defs (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- Every run of the kernel program ends with the messages and the picked positions in its result arrays and with its
    arguments unchanged. -/
theorem run : θ_run defs (onTc (τ := τ) (main (F := Ideal))) ⟨m, fun _ => 0, ρ⟩ (fun r => ∀ c : Dev nD,
      r.2.mem ((c.tc : Thread nD τ).loc main_v5_0) = messages m c
      ∧ r.2.mem ((c.tc : Thread nD τ).loc main_v5_1) = positions m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v5_0 (by decide))).trans (end_messages m ρ c),
     (h c _ (mem_uc main_v5_1 (by decide))).trans (end_positions m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (ends m ρ)

end Cert.Proof.KernelRun

end
-- ==== Proof.RefRows.lean ====
/-
  The reference's stages up to the queries, keys and values, read at an index: the functions of `Proof/Spec.lean` of the
  arguments' rows.
-/
module

public import proofs.«01_k».proof.Proof.Gen.ReferenceIdeal.Read
public import proofs.«01_k».proof.Proof.Spec
public import Idealize.ShloMosaic.Lib.Pointwise

@[expose] public section

set_option maxRecDepth 16384

noncomputable section

namespace Cert.Proof.RefRows

open Idealize.ShloMosaic Idealize.ShloMosaic.TcCoe
open Cert.ReferenceIdeal Cert.ReferenceIdeal.Gen Cert.ReferenceIdeal.Read

variable (x0 : FVec Ideal S2048x1024 .f32) (x1 : FVec Ideal S1024x3072 .f32) (x2 : FVec Ideal S3072 .f32)
  (x3 x4 : FVec Ideal S1024 .f32)

/-- Row `r` of the points. -/
def row (r : Fin 2048) : Fin 1024 → EReal := fun d => x0 (ix2 r d)

/-- A vector's entries. -/
def vec {n : Nat} (x : FVec Ideal ⟨1, ![n]⟩ .f32) : Fin n → EReal := fun d => x (ix1 d)

/-- A matrix's entries. -/
def mat {a b : Nat} (x : FVec Ideal ⟨2, ![a, b]⟩ .f32) : Fin a → Fin b → EReal := fun i j => x (ix2 i j)

/-- The mean of row `r`. -/
theorem mean_apply (r : Fin 2048) : val_main_v3 (F := Ideal) x0 (ix2 r 0) = Spec.mean (row x0 r) := by
  pointwise [val_main_v3, val_main_v2, val_main_v1, val_main_v0, val_main_cst, val_main_cst_0, Spec.mean, Spec.width, row]

/-- The mean of row `r`, as the variance's computation has it. -/
theorem mean_apply' (r : Fin 2048) : val_main_call0_v3 (F := Ideal) x0 (ix2 r 0) = Spec.mean (row x0 r) := by
  pointwise [val_main_call0_v3, val_main_call0_v2, val_main_call0_v1, val_main_call0_v0, val_main_call0_cst,
    val_main_call0_cst_0, Spec.mean, Spec.width, row]

/-- The row less its mean. -/
theorem centred_apply (r : Fin 2048) (d : Fin 1024) :
    val_main_v6 (F := Ideal) x0 (ix2 r d) = Spec.centred (row x0 r) d := by
  unfold Spec.centred
  rw [← mean_apply]
  unfold val_main_v6 val_main_v5
  generalize val_main_v3 (F := Ideal) x0 = y
  pointwise [row]

/-- The row less its mean, as the variance's computation has it. -/
theorem centred_apply' (r : Fin 2048) (d : Fin 1024) :
    val_main_call0_v5 (F := Ideal) x0 (ix2 r d) = Spec.centred (row x0 r) d := by
  unfold Spec.centred
  rw [← mean_apply']
  unfold val_main_call0_v5 val_main_call0_v4
  generalize val_main_call0_v3 (F := Ideal) x0 = y
  pointwise [row]

/-- The number of entries less the correction, which is none. -/
theorem count_apply (i : S_.Idx) : val_main_call0_v8 (F := Ideal) i = Spec.width := by
  have h : val_main_call0_v8 (F := Ideal) i = Spec.width - ((((0#32 : BitVec 32).toInt : ℤ) : ℝ) : EReal) := rfl
  rw [h]
  simp

/-- The variance of row `r`, before the count is tested. -/
theorem quotient_apply (r : Fin 2048) : val_main_call0_v12 (F := Ideal) x0 (ix2 r 0) = Spec.variance (row x0 r) := by
  have h : ∀ d, val_main_call0_v6 (F := Ideal) x0 (ix2 r d) = Spec.centred (row x0 r) d * Spec.centred (row x0 r) d := fun d => by
    rw [← centred_apply']
    unfold val_main_call0_v6
    generalize val_main_call0_v5 (F := Ideal) x0 = y
    pointwise []
  unfold Spec.variance
  rw [← count_apply ix0]
  simp only [← h]
  unfold val_main_call0_v12 val_main_call0_v11 val_main_call0_v10 val_main_call0_v9
  generalize val_main_call0_v6 (F := Ideal) x0 = y
  generalize val_main_call0_v8 (F := Ideal) = z
  pointwise [val_main_call0_cst_2]

/-- The variance of row `r`. -/
theorem variance_apply (r : Fin 2048) : val_main_v4 (F := Ideal) x0 (ix2 r 0) = Spec.variance (row x0 r) := by
  rw [← quotient_apply]
  unfold val_main_v4 val_main_call0_v13
  generalize val_main_call0_v12 (F := Ideal) x0 = y
  have h : val_main_call0_v8 (F := Ideal) = fun _ => Spec.width := funext count_apply
  rw [h]
  pointwise [val_main_call0_cst_3]
  rw [if_pos (by rw [Spec.width_eq]; exact_mod_cast (by norm_num : (0 : ℝ) < 1024))]

/-- The normalised row `r`. -/
theorem normed_apply (r : Fin 2048) (d : Fin 1024) :
    val_main_v17 (F := Ideal) x0 x3 x4 (ix2 r d) = Spec.normed (row x0 r) (vec x3) (vec x4) d := by
  unfold Spec.normed
  rw [← centred_apply, ← variance_apply]
  unfold val_main_v17 val_main_v16 val_main_v15 val_main_v14 val_main_v13 val_main_v12 val_main_v11 val_main_v10 val_main_v9
    val_main_v8 val_main_v7 val_main_cst_1 Spec.eps
  generalize val_main_v4 (F := Ideal) x0 = y
  generalize val_main_v6 (F := Ideal) x0 = z
  pointwise [vec]

/-- The projection of row `r`. -/
theorem project_apply (r : Fin 2048) (j : Fin 3072) :
    val_main_v21 (F := Ideal) x0 x1 x2 x3 x4 (ix2 r j)
      = Spec.project (row x0 r) (vec x3) (vec x4) (mat x1) (vec x2) j := by
  unfold Spec.project
  simp only [← normed_apply]
  unfold val_main_v21 val_main_v20 val_main_v19 val_main_v18
  generalize val_main_v17 (F := Ideal) x0 x3 x4 = y
  pointwise [vec, mat]

end Cert.Proof.RefRows

end
-- ==== Proof.RefAttend.lean ====
/-
  The reference's attention, read at an index: scores, probabilities, totals and messages are the functions of
  `Proof/Spec.lean` of the arguments.
-/
module

public import proofs.«01_k».proof.Proof.RefRows

@[expose] public section

set_option maxRecDepth 16384

noncomputable section

namespace Cert.Proof.RefAttend

open Idealize.ShloMosaic Idealize.ShloMosaic.TcCoe
open Cert.ReferenceIdeal Cert.ReferenceIdeal.Gen Cert.ReferenceIdeal.Read Cert.Proof.RefRows

variable (x0 : FVec Ideal S2048x1024 .f32) (x1 : FVec Ideal S1024x3072 .f32) (x2 : FVec Ideal S3072 .f32)
  (x3 x4 : FVec Ideal S1024 .f32) (x5 : FVec Ideal S1024x1024 .f32) (x6 : FVec Ideal S1024 .f32)

/-- The queries of row `r`. -/
def queryRow (r : Fin 2048) : Fin 1024 → EReal := Spec.queryOf (row x0) (mat x1) (vec x2) (vec x3) (vec x4) r

/-- The keys and values of all rows. -/
def kv : Fin 2048 → Fin 2048 → EReal := Spec.kvOf (row x0) (mat x1) (vec x2) (vec x3) (vec x4)

/-- The projection split into parts, heads and columns. -/
theorem split_apply (r : Fin 2048) (p : Fin 3) (h : Fin 16) (c : Fin 64) :
    val_main_v22 (F := Ideal) x0 x1 x2 x3 x4 (ix4 r p h c)
      = Spec.project (row x0 r) (vec x3) (vec x4) (mat x1) (vec x2) ⟨1024 * p.val + 64 * h.val + c.val, by omega⟩ := by
  rw [val_main_v22_apply, ← project_apply]
  refine congrArg (val_main_v21 (F := Ideal) x0 x1 x2 x3 x4) (funext fun a => Fin.ext ?_)
  match a with
  | ⟨0, _⟩ => show (((r.val * 3 + p.val) * 16 + h.val) * 64 + c.val) / 3072 = r.val; omega
  | ⟨1, _⟩ => show (((r.val * 3 + p.val) * 16 + h.val) * 64 + c.val) % 3072 = 1024 * p.val + 64 * h.val + c.val; omega

/-- The queries by heads. -/
theorem q_apply (r : Fin 2048) (h : Fin 16) (c : Fin 64) :
    val_main_v25 (F := Ideal) x0 x1 x2 x3 x4 (ix4 0 r h c) = queryRow x0 x1 x2 x3 x4 r (Spec.col h c) := by
  have e : val_main_v25 (F := Ideal) x0 x1 x2 x3 x4 (ix4 0 r h c) = val_main_v22 (F := Ideal) x0 x1 x2 x3 x4 (ix4 r 0 h c) := by
    unfold val_main_v25 val_main_v24 val_main_v23
    generalize val_main_v22 (F := Ideal) x0 x1 x2 x3 x4 = y
    pointwise []
  rw [e, split_apply]
  exact congrArg _ (Fin.ext (by show 1024 * 0 + 64 * h.val + c.val = 64 * h.val + c.val; omega))

/-- The keys by heads. -/
theorem k_apply (r : Fin 2048) (h : Fin 16) (c : Fin 64) :
    val_main_v28 (F := Ideal) x0 x1 x2 x3 x4 (ix4 0 r h c) = kv x0 x1 x2 x3 x4 r (Spec.keyCol h c) := by
  have e : val_main_v28 (F := Ideal) x0 x1 x2 x3 x4 (ix4 0 r h c) = val_main_v22 (F := Ideal) x0 x1 x2 x3 x4 (ix4 r 1 h c) := by
    unfold val_main_v28 val_main_v27 val_main_v26
    generalize val_main_v22 (F := Ideal) x0 x1 x2 x3 x4 = y
    pointwise []
  rw [e, split_apply]
  exact congrArg _ (Fin.ext (by show 1024 * 1 + 64 * h.val + c.val = 1024 + (64 * h.val + c.val); omega))

/-- The values by heads. -/
theorem v_apply (r : Fin 2048) (h : Fin 16) (c : Fin 64) :
    val_main_v31 (F := Ideal) x0 x1 x2 x3 x4 (ix4 0 r h c) = kv x0 x1 x2 x3 x4 r (Spec.valueCol h c) := by
  have e : val_main_v31 (F := Ideal) x0 x1 x2 x3 x4 (ix4 0 r h c) = val_main_v22 (F := Ideal) x0 x1 x2 x3 x4 (ix4 r 2 h c) := by
    unfold val_main_v31 val_main_v30 val_main_v29
    generalize val_main_v22 (F := Ideal) x0 x1 x2 x3 x4 = y
    pointwise []
  rw [e, split_apply]
  exact congrArg _ (Fin.ext (by show 1024 * 2 + 64 * h.val + c.val = 1024 + (1024 + 64 * h.val + c.val); omega))

/-- The scores of row `r`. -/
theorem score_apply (r t : Fin 2048) (h : Fin 16) :
    val_main_v35 (F := Ideal) x0 x1 x2 x3 x4 (ix4 0 r t h)
      = Spec.score (queryRow x0 x1 x2 x3 x4 r) (kv x0 x1 x2 x3 x4) h t := by
  have e : val_main_v35 (F := Ideal) x0 x1 x2 x3 x4 (ix4 0 r t h) = Spec.eighth * ∑ c : Fin 64,
      val_main_v28 (F := Ideal) x0 x1 x2 x3 x4 (ix4 0 t h c) * val_main_v25 (F := Ideal) x0 x1 x2 x3 x4 (ix4 0 r h c) := by
    unfold val_main_v35 val_main_v34 val_main_v33 val_main_v32 val_main_cst_2 Spec.eighth
    generalize val_main_v28 (F := Ideal) x0 x1 x2 x3 x4 = y
    generalize val_main_v25 (F := Ideal) x0 x1 x2 x3 x4 = z
    pointwise []
  rw [e, mul_comm]
  unfold Spec.score
  refine congrArg (· * Spec.eighth) (Finset.sum_congr rfl fun c _ => ?_)
  rw [k_apply, q_apply, mul_comm]

theorem ofBits_neg_inf : Ideal.ofBits .f32 0xFF800000#32 = ⊥ := by
  simp [Ideal.ofBits, Ideal.ieee]

/-- A maximum over the third axis, from any initial value, is the greatest of that axis' entries and the initial value. -/
theorem greatest_apply (y : FVec Ideal S1x2048x2048x16 .f32) (z : FVec Ideal S_ .f32) (r : Fin 2048) (h : Fin 16) :
    Host.reduce FloatOps.maximumf y z reducesTo_S1x2048x2048x16_S1x2048x16_d2 h_S_ (ix3 0 r h)
      = (Finset.univ : Finset (Fin 2048)).fold max (z (Shape.Idx.first h_S_)) (fun t => y (ix4 0 r t h)) := by
  have hr : S1x2048x2048x16.Reduces [2] S1x2048x16 := by decide
  refine (Host.reduce_eq_fold_single FloatOps.maximumf y z _ hr h_S_ (ix3 0 r h)).trans ?_
  refine Finset.fold_congr (op := max) fun t _ => congrArg y (funext fun a => Fin.ext ?_)
  match a with
  | ⟨0, _⟩ => rfl
  | ⟨1, _⟩ => rfl
  | ⟨2, _⟩ => rfl
  | ⟨3, _⟩ => rfl

/-- The reference's maximum with the least value is its other operand. -/
theorem floor_apply (y : FVec Ideal S1x2048x16 .f32) (i : S1x2048x16.Idx) :
    maximumf (broadcastInDim S1x2048x16 ![] bcast_S_S1x2048x16 (constant (F := Ideal) S_ .f32 0xFF800000#32)) y i = y i := by
  have h : maximumf (broadcastInDim S1x2048x16 ![] bcast_S_S1x2048x16 (constant (F := Ideal) S_ .f32 0xFF800000#32)) y i
      = max (Ideal.ofBits .f32 0xFF800000#32) (y i) := rfl
  rw [h, ofBits_neg_inf, max_bot_left]

/-- The maximum before it meets the least value is the same. -/
theorem unfloored (r : Fin 2048) (h : Fin 16) :
    val_main_v38 (F := Ideal) x0 x1 x2 x3 x4 (ix3 0 r h) = val_main_v36 (F := Ideal) x0 x1 x2 x3 x4 (ix3 0 r h) := by
  unfold val_main_v38 val_main_v37 val_main_cst_4
  generalize val_main_v36 (F := Ideal) x0 x1 x2 x3 x4 = y
  exact floor_apply y _

/-- The maximum as one over the scores of row `r`. -/
theorem folded (r : Fin 2048) (h : Fin 16) :
    val_main_v36 (F := Ideal) x0 x1 x2 x3 x4 (ix3 0 r h)
      = (Finset.univ : Finset (Fin 2048)).fold max (val_main_cst_3 (F := Ideal) (Shape.Idx.first h_S_))
        (fun t => val_main_v35 (F := Ideal) x0 x1 x2 x3 x4 (ix4 0 r t h)) := by
  unfold val_main_v36
  generalize val_main_v35 (F := Ideal) x0 x1 x2 x3 x4 = y
  generalize val_main_cst_3 (F := Ideal) = z
  exact greatest_apply y z r h

/-- The greatest score of row `r` for head `h`. -/
theorem max_apply (r : Fin 2048) (h : Fin 16) :
    val_main_v38 (F := Ideal) x0 x1 x2 x3 x4 (ix3 0 r h)
      = Ranking.rowMax (Spec.score (queryRow x0 x1 x2 x3 x4 r) (kv x0 x1 x2 x3 x4) h) := by
  have e : val_main_cst_3 (F := Ideal) (Shape.Idx.first h_S_) = ⊥ := ofBits_neg_inf
  rw [unfloored, folded, e]
  unfold Ranking.rowMax
  exact Finset.fold_congr fun t _ => score_apply x0 x1 x2 x3 x4 r t h

/-- The probabilities of row `r`. -/
theorem prob_apply (r t : Fin 2048) (h : Fin 16) :
    val_main_v46 (F := Ideal) x0 x1 x2 x3 x4 (ix4 0 r t h)
      = Spec.prob (queryRow x0 x1 x2 x3 x4 r) (kv x0 x1 x2 x3 x4) h t := by
  have e : ∀ u, val_main_v42 (F := Ideal) x0 x1 x2 x3 x4 (ix4 0 r u h)
      = Ideal.exp (Spec.score (queryRow x0 x1 x2 x3 x4 r) (kv x0 x1 x2 x3 x4) h u
        - Ranking.rowMax (Spec.score (queryRow x0 x1 x2 x3 x4 r) (kv x0 x1 x2 x3 x4) h)) := fun u => by
    rw [← max_apply, ← score_apply]
    unfold val_main_v42 val_main_v41 val_main_v40 val_main_v39
    generalize val_main_v38 (F := Ideal) x0 x1 x2 x3 x4 = y
    generalize val_main_v35 (F := Ideal) x0 x1 x2 x3 x4 = z
    pointwise []
  unfold Spec.prob Spec.soft
  simp only [← e]
  unfold val_main_v46 val_main_v45 val_main_v44 val_main_v43 val_main_cst_5
  generalize val_main_v42 (F := Ideal) x0 x1 x2 x3 x4 = y
  pointwise []

/-- The mean over the heads of the probabilities of row `r`. -/
theorem mean_apply (r t : Fin 2048) :
    val_main_v49 (F := Ideal) x0 x1 x2 x3 x4 (ix3 0 r t)
      = Ideal.div (Spec.total (queryRow x0 x1 x2 x3 x4 r) (kv x0 x1 x2 x3 x4) t) Spec.sixteen := by
  unfold Spec.total Spec.sixteen
  simp only [← prob_apply]
  unfold val_main_v49 val_main_v48 val_main_v47 val_main_cst_6 val_main_cst_7
  generalize val_main_v46 (F := Ideal) x0 x1 x2 x3 x4 = y
  pointwise []

/-- The heads' outputs in row `r`. -/
theorem head_apply (r : Fin 2048) (h : Fin 16) (c : Fin 64) :
    val_main_v51 (F := Ideal) x0 x1 x2 x3 x4 (ix4 0 r h c)
      = Spec.head (queryRow x0 x1 x2 x3 x4 r) (kv x0 x1 x2 x3 x4) h c := by
  have e : val_main_v51 (F := Ideal) x0 x1 x2 x3 x4 (ix4 0 r h c) = ∑ t : Fin 2048,
      val_main_v31 (F := Ideal) x0 x1 x2 x3 x4 (ix4 0 t h c) * val_main_v46 (F := Ideal) x0 x1 x2 x3 x4 (ix4 0 r t h) := by
    unfold val_main_v51 val_main_v50
    generalize val_main_v31 (F := Ideal) x0 x1 x2 x3 x4 = y
    generalize val_main_v46 (F := Ideal) x0 x1 x2 x3 x4 = z
    pointwise []
  rw [e]
  unfold Spec.head
  refine Finset.sum_congr rfl fun t _ => ?_
  rw [v_apply, prob_apply, mul_comm]

/-- The heads' outputs side by side. -/
theorem heads_apply (r : Fin 2048) (d : Fin 1024) :
    val_main_v52 (F := Ideal) x0 x1 x2 x3 x4 (ix3 0 r d)
      = Spec.head (queryRow x0 x1 x2 x3 x4 r) (kv x0 x1 x2 x3 x4) (Spec.headOf d) (Spec.within d) := by
  rw [val_main_v52_apply, ← head_apply]
  refine congrArg (val_main_v51 (F := Ideal) x0 x1 x2 x3 x4) (funext fun a => Fin.ext ?_)
  match a with
  | ⟨0, _⟩ => rfl
  | ⟨1, _⟩ => show ((0 * 2048 + r.val) * 1024 + d.val) / 1024 % 2048 = r.val; omega
  | ⟨2, _⟩ => show ((0 * 2048 + r.val) * 1024 + d.val) / 64 % 16 = d.val / 64; omega
  | ⟨3, _⟩ => show ((0 * 2048 + r.val) * 1024 + d.val) % 64 = d.val % 64; omega

/-- The values side by side. -/
theorem own_apply (r : Fin 2048) (d : Fin 1024) :
    val_main_v57 (F := Ideal) x0 x1 x2 x3 x4 (ix3 0 r d)
      = Spec.valueOf (row x0) (mat x1) (vec x2) (vec x3) (vec x4) r d := by
  rw [val_main_v57_apply]
  have e : idx_main_v57 (ix3 0 r d) = ix4 0 r (Spec.headOf d) (Spec.within d) := funext fun a => Fin.ext (by
    match a with
    | ⟨0, _⟩ => rfl
    | ⟨1, _⟩ => show ((0 * 2048 + r.val) * 1024 + d.val) / 1024 % 2048 = r.val; omega
    | ⟨2, _⟩ => show ((0 * 2048 + r.val) * 1024 + d.val) / 64 % 16 = d.val / 64; omega
    | ⟨3, _⟩ => show ((0 * 2048 + r.val) * 1024 + d.val) % 64 = d.val % 64; omega)
  rw [e, v_apply]
  exact congrArg (kv x0 x1 x2 x3 x4 r) (Fin.ext (by
    show 1024 + 64 * (d.val / 64) + d.val % 64 = 1024 + d.val; omega))

/-- The messages of row `r`. -/
theorem message_apply (r : Fin 2048) (j : Fin 1024) :
    val_main_v59 (F := Ideal) x0 x1 x2 x3 x4 x5 x6 (ix2 r j)
      = Spec.messageOf (row x0) (mat x1) (vec x2) (vec x3) (vec x4) (mat x5) (vec x6) r j := by
  have e : val_main_v59 (F := Ideal) x0 x1 x2 x3 x4 x5 x6 (ix2 r j)
      = val_main_v57 (F := Ideal) x0 x1 x2 x3 x4 (ix3 0 r j)
        + ((∑ d, val_main_v52 (F := Ideal) x0 x1 x2 x3 x4 (ix3 0 r d) * mat x5 d j) + vec x6 j) := by
    unfold val_main_v59 val_main_v58 val_main_v56 val_main_v55 val_main_v54 val_main_v53
    generalize val_main_v57 (F := Ideal) x0 x1 x2 x3 x4 = y
    generalize val_main_v52 (F := Ideal) x0 x1 x2 x3 x4 = z
    pointwise [mat, vec]
  rw [e, own_apply, add_comm]
  simp only [heads_apply]
  rfl

end Cert.Proof.RefAttend

end
-- ==== Proof.RefRank.lean ====
/-
  The reference's top-k, read at an index: the positions a stable sort of the row's mean probabilities, greatest first,
  puts in front.
-/
module

public import proofs.«01_k».proof.Proof.RefAttend

@[expose] public section

set_option maxRecDepth 16384

noncomputable section

namespace Cert.Proof.RefRank

open Idealize.ShloMosaic Idealize.ShloMosaic.TcCoe
open Cert.ReferenceIdeal Cert.ReferenceIdeal.Gen Cert.ReferenceIdeal.Read Cert.Proof.RefRows

/-- Moving along the last axis replaces the last coordinate. -/
theorem along_apply (r k a : Fin 2048) : (ix3 0 r k : S1x2048x2048.Idx).along 2 a = ix3 0 r a :=
  funext fun b => by match b with | ⟨0, _⟩ => rfl | ⟨1, _⟩ => rfl | ⟨2, _⟩ => rfl

attribute [local irreducible] sortedFrom

theorem along_self (r k v : Fin 2048) : ((ix3 0 r k : S1x2048x2048.Idx).along 2 v 2 : Fin 2048) = v := rfl

/-- The positions top-k gives of row `r`: the first of the row's positions in the order of the sort. -/
theorem topK_apply (y : FVec Ideal S1x2048x2048 .f32) (S : Fin 2048 → EReal) (r : Fin 2048)
    (hS : ∀ t, y (ix3 0 r t) = S t) (k : Fin 16) :
    (Host.topK S1x2048x16 2 (FloatOps.cmpfTotal (F := Ideal) .gt) y sliceFits_S1x2048x2048_S1x2048x16).2 (ix3 0 r k)
      = BitVec.ofNat 32 (sortedFrom (Ranking.larger S) (⟨k.val, by omega⟩ : Fin 2048)).val := by
  have e : (Host.topK S1x2048x16 2 (FloatOps.cmpfTotal (F := Ideal) .gt) y sliceFits_S1x2048x2048_S1x2048x16).2 (ix3 0 r k)
      = BitVec.ofNat 32 (sortedFrom (fun a b : Fin 2048 =>
          FloatOps.cmpfTotal (F := Ideal) (φ := .f32) .gt (y ((ix3 0 r (⟨k.val, by omega⟩ : Fin 2048) : S1x2048x2048.Idx).along 2 a))
            (y ((ix3 0 r (⟨k.val, by omega⟩ : Fin 2048) : S1x2048x2048.Idx).along 2 b)) == 1#1) (⟨k.val, by omega⟩ : Fin 2048)).val := by
    pointwise [Host.topK, Host.sort2]
    exact congrArg (fun v : Fin 2048 => BitVec.ofNat 32 v.val) (along_self r _ _)
  have hb : (fun a b : Fin 2048 =>
      FloatOps.cmpfTotal (F := Ideal) (φ := .f32) .gt (y ((ix3 0 r (⟨k.val, by omega⟩ : Fin 2048) : S1x2048x2048.Idx).along 2 a))
        (y ((ix3 0 r (⟨k.val, by omega⟩ : Fin 2048) : S1x2048x2048.Idx).along 2 b)) == 1#1) = Ranking.larger S := by
    funext a b
    rw [along_apply, along_apply, hS, hS]
    unfold Ranking.larger
    show (BitVec.ofBool (decide (S b < S a)) == 1#1) = decide (S b < S a)
    cases decide (S b < S a) <;> rfl
  rw [e, hb]

variable (x0 : FVec Ideal S2048x1024 .f32) (x1 : FVec Ideal S1024x3072 .f32) (x2 : FVec Ideal S3072 .f32)
  (x3 x4 : FVec Ideal S1024 .f32)

/-- The positions of row `r`: the first in the order of the sort of the mean probabilities. -/
theorem position_apply (r : Fin 2048) (k : Fin 16) :
    val_main_v60 (F := Ideal) x0 x1 x2 x3 x4 (ix2 r k)
      = BitVec.ofNat 32 (sortedFrom (Ranking.larger fun t => Ideal.div
          (Spec.totalOf (row x0) (mat x1) (vec x2) (vec x3) (vec x4) r t) Spec.sixteen) (⟨k.val, by omega⟩ : Fin 2048)).val := by
  have e : val_main_v60 (F := Ideal) x0 x1 x2 x3 x4 (ix2 r k) = val_main_indices (F := Ideal) x0 x1 x2 x3 x4 (ix3 0 r k) := by
    unfold val_main_v60
    generalize val_main_indices (F := Ideal) x0 x1 x2 x3 x4 = y
    pointwise []
  rw [e]
  unfold val_main_indices
  exact topK_apply _ _ r (fun t => RefAttend.mean_apply x0 x1 x2 x3 x4 r t) k

end Cert.Proof.RefRank

end
-- ==== Proof.Finite.lean ====
/-
  Where the points, the normalisation's parameters and the weights and biases of the queries and keys are finite, every
  score is a real number, so every probability and every total is one; and dividing totals by the number of heads keeps
  their order.
-/
module

public import proofs.«01_k».proof.Proof.Spec

@[expose] public section

set_option maxRecDepth 16384

noncomputable section

namespace Cert.Proof.Finite

open Idealize.ShloMosaic Cert.Proof.Spec

/-- An extended real that is a real number. -/
def IsReal (x : EReal) : Prop := ∃ a : ℝ, x = (a : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A sum of real numbers, as one. -/
theorem sum_coe {n : Nat} (f : Fin n → ℝ) : ∑ i, (f i : EReal) = ((∑ i, f i : ℝ) : EReal) :=
  (map_sum (⟨⟨((↑) : ℝ → EReal), EReal.coe_zero⟩, EReal.coe_add⟩ : ℝ →+ EReal) f Finset.univ).symm

theorem IsReal.sum {n : Nat} {f : Fin n → EReal} (h : ∀ i, IsReal (f i)) : IsReal (∑ i, f i) := by
  choose a ha using h
  exact ⟨∑ i, a i, by rw [← sum_coe]; exact Finset.sum_congr rfl fun i _ => ha i⟩

/-- The quotient of real numbers, the divisor not zero. -/
theorem div_coe (a : ℝ) {b : ℝ} (hb : b ≠ 0) : Ideal.div (a : EReal) (b : EReal) = ((a * b⁻¹ : ℝ) : EReal) := by
  unfold Ideal.div
  rw [if_neg (by exact_mod_cast hb), EReal.coe_mul, EReal.coe_inv]

theorem IsReal.div {x : EReal} (hx : IsReal x) {b : ℝ} (hb : b ≠ 0) : IsReal (Ideal.div x (b : EReal)) := by
  obtain ⟨a, rfl⟩ := hx
  exact ⟨_, div_coe a hb⟩

section Row

variable {x g b : Fin 1024 → EReal}

theorem mean_real (hx : ∀ d, IsReal (x d)) : IsReal (mean x) := by
  unfold mean
  rw [width_eq]
  exact (IsReal.sum hx).div (by norm_num)

theorem centred_real (hx : ∀ d, IsReal (x d)) (d : Fin 1024) : IsReal (centred x d) := (hx d).sub (mean_real hx)

/-- The variance is a real number that is not negative. -/
theorem variance_real (hx : ∀ d, IsReal (x d)) : ∃ v : ℝ, 0 ≤ v ∧ variance x = (v : EReal) := by
  choose a ha using centred_real hx
  refine ⟨(∑ d, a d * a d) * (1024 : ℝ)⁻¹, ?_, ?_⟩
  · exact mul_nonneg (Finset.sum_nonneg fun d _ => mul_self_nonneg _) (by norm_num)
  · unfold variance
    have h : (∑ d, centred x d * centred x d) = ((∑ d, a d * a d : ℝ) : EReal) := by
      rw [← sum_coe]
      exact Finset.sum_congr rfl fun d _ => by rw [ha d, EReal.coe_mul]
    rw [h, width_eq, div_coe _ (by norm_num)]

/-- What the row is divided by is a positive real number. -/
theorem deviation_real (hx : ∀ d, IsReal (x d)) : ∃ s : ℝ, 0 < s ∧ Ideal.sqrt (variance x + eps) = (s : EReal) := by
  obtain ⟨v, hv, ev⟩ := variance_real hx
  obtain ⟨e, he, ee⟩ := eps_pos
  refine ⟨Real.sqrt (v + e), Real.sqrt_pos.mpr (by linarith), ?_⟩
  rw [ev, ee, ← EReal.coe_add]
  show (if v + e < 0 then ⊥ else ((Real.sqrt (v + e) : ℝ) : EReal)) = _
  rw [if_neg (by linarith)]

theorem normed_real (hx : ∀ d, IsReal (x d)) (hg : ∀ d, IsReal (g d)) (hb : ∀ d, IsReal (b d)) (d : Fin 1024) :
    IsReal (normed x g b d) := by
  obtain ⟨s, hs, es⟩ := deviation_real hx
  unfold normed
  rw [es]
  exact (((centred_real hx d).div hs.ne').mul (hg d)).add (hb d)

theorem project_real {W : Fin 1024 → Fin 3072 → EReal} {bias : Fin 3072 → EReal} (hx : ∀ d, IsReal (x d))
    (hg : ∀ d, IsReal (g d)) (hb : ∀ d, IsReal (b d)) (j : Fin 3072) (hW : ∀ d, IsReal (W d j)) (hs : IsReal (bias j)) :
    IsReal (project x g b W bias j) :=
  (IsReal.sum fun d => (normed_real hx hg hb d).mul (hW d)).add hs

end Row

/-- The greatest of some real numbers is one. -/
theorem rowMax_real {n : Nat} (hn : 0 < n) {s : Fin n → EReal} (hs : ∀ t, IsReal (s t)) : IsReal (Ranking.rowMax s) := by
  obtain ⟨t, -, e⟩ := Finset.exists_mem_eq_sup (Finset.univ : Finset (Fin n)) ⟨⟨0, hn⟩, Finset.mem_univ _⟩ s
  have h : Ranking.rowMax s = s t := e
  rw [h]
  exact hs t

/-- The softmax of real scores is real. -/
theorem soft_real {n : Nat} {s : Fin n → EReal} (hs : ∀ t, IsReal (s t)) (t : Fin n) : IsReal (soft s t) := by
  have hn : 0 < n := Nat.lt_of_le_of_lt (Nat.zero_le _) t.isLt
  have he : ∀ u, ∃ a : ℝ, 0 < a ∧ Ideal.exp (s u - Ranking.rowMax s) = (a : EReal) := fun u => by
    obtain ⟨a, ea⟩ := (hs u).sub (rowMax_real hn hs)
    exact ⟨Real.exp a, Real.exp_pos a, by rw [ea]; rfl⟩
  choose a ha ea using he
  unfold soft
  have h : (∑ u, Ideal.exp (s u - Ranking.rowMax s)) = ((∑ u, a u : ℝ) : EReal) := by
    rw [← sum_coe]
    exact Finset.sum_congr rfl fun u _ => ea u
  rw [h]
  exact IsReal.div ⟨a t, ea t⟩ (Finset.sum_pos (fun u _ => ha u) ⟨t, Finset.mem_univ _⟩).ne'

section Whole

attribute [local irreducible] sortedFrom

variable {X : Fin 2048 → Fin 1024 → EReal} {W : Fin 1024 → Fin 3072 → EReal} {bias : Fin 3072 → EReal}
  {g b : Fin 1024 → EReal}

/-- The inputs the totals depend on are real numbers. -/
structure Inputs (X : Fin 2048 → Fin 1024 → EReal) (W : Fin 1024 → Fin 3072 → EReal) (bias : Fin 3072 → EReal)
    (g b : Fin 1024 → EReal) : Prop where
  points : ∀ r d, IsReal (X r d)
  weights : ∀ d (j : Fin 3072), j.val < 2048 → IsReal (W d j)
  biases : ∀ j : Fin 3072, j.val < 2048 → IsReal (bias j)
  scale : ∀ d, IsReal (g d)
  shift : ∀ d, IsReal (b d)

theorem projected (H : Inputs X W bias g b) (r : Fin 2048) (j : Fin 3072) (hj : j.val < 2048) :
    IsReal (project (X r) g b W bias j) :=
  project_real (H.points r) H.scale H.shift j (fun d => H.weights d j hj) (H.biases j hj)

theorem score_real (H : Inputs X W bias g b) (r : Fin 2048) (h : Fin 16) (t : Fin 2048) :
    IsReal (score (queryOf X W bias g b r) (kvOf X W bias g b) h t) := by
  unfold score
  rw [eighth_eq]
  refine (IsReal.sum fun c => (projected H r _ ?_).mul (projected H t _ ?_)).mul ⟨_, rfl⟩
  · show 64 * h.val + c.val < 2048
    omega
  · show 1024 + (64 * h.val + c.val) < 2048
    omega

/-- Every total is a real number. -/
theorem total_real (H : Inputs X W bias g b) (r t : Fin 2048) : IsReal (totalOf X W bias g b r t) :=
  IsReal.sum fun h => soft_real (score_real H r h) t

/-- Dividing totals by the number of heads keeps their order. -/
theorem larger_mean (H : Inputs X W bias g b) (r : Fin 2048) :
    sortedFrom (Ranking.larger fun t => Ideal.div (totalOf X W bias g b r t) sixteen)
      = sortedFrom (Ranking.larger (totalOf X W bias g b r)) := by
  refine Ranking.sorted_congr _ _ fun a c => ?_
  obtain ⟨u, eu⟩ := total_real H r a
  obtain ⟨v, ev⟩ := total_real H r c
  rw [eu, ev, sixteen_eq, div_coe _ (by norm_num), div_coe _ (by norm_num), EReal.coe_lt_coe_iff, EReal.coe_lt_coe_iff]
  constructor <;> intro h <;> linarith

/-- The positions the kernel picks are those of the sort of the mean probabilities. -/
theorem picked_eq (H : Inputs X W bias g b) (r : Fin 2048) (k : Fin 16) :
    pickedOf X W bias g b r k.val = BitVec.ofNat 32 (sortedFrom (Ranking.larger fun t =>
      Ideal.div (totalOf X W bias g b r t) sixteen) (⟨k.val, by omega⟩ : Fin 2048)).val := by
  have hk : k.val < 2048 := by omega
  have e : Ranking.pick (Ranking.strike^[k.val] (totalOf X W bias g b r))
      = BitVec.ofNat 32 (sortedFrom (Ranking.larger (totalOf X W bias g b r)) ⟨k.val, hk⟩).val :=
    Ranking.picked_eq_sorted (Nat.le_refl 2048) (totalOf X W bias g b r)
      (fun t => by obtain ⟨u, eu⟩ := total_real H r t; rw [eu]; exact EReal.bot_lt_coe u) ⟨k.val, hk⟩
  rw [larger_mean H r, ← e]
  unfold pickedOf picked totalOf
  rfl

end Whole

end Cert.Proof.Finite

end
-- ==== Proof.Agree.lean ====
/-
  The reference's two results, from arguments that agree with the kernel program's: the messages are the kernel's for all
  arguments, the positions are the kernel's where the precondition holds.
-/
module

public import proofs.«01_k».proof.Proof.KernelRun
public import proofs.«01_k».proof.Proof.RefRank
public import proofs.«01_k».proof.Proof.Finite
public import proofs.«01_k».proof.Pre_finite

@[expose] public section

set_option maxRecDepth 16384

noncomputable section

namespace Cert.Proof.Agree

open Idealize.ShloMosaic Idealize.ShloMosaic.TcCoe Idealize.SL.Sem
open Cert.KernelIdeal (S2048x1024 S1024x3072 S3072 S1024 S1024x1024 S2048x16)

/-! ### What the precondition says of an entry -/

theorem ofBits_inf : Ideal.ofBits .f32 0x7F800000#32 = ⊤ := by
  simp [Ideal.ofBits, Ideal.ieee]

/-- An extended real whose absolute value compares below infinity is a real number. -/
theorem real_of_below (x : EReal) (h : FloatOps.cmpf (F := Ideal) (φ := .f32) .olt (FloatOps.hostAbsf (F := Ideal) (φ := .f32) x)
    (FloatOps.ofBits (F := Ideal) .f32 0x7F800000#32) = 1#1) : Finite.IsReal x := by
  have hd : BitVec.ofBool (decide (max x (-x) < Ideal.ofBits .f32 0x7F800000#32)) = 1#1 := h
  rw [ofBits_inf] at hd
  have hlt : max x (-x) < ⊤ := by
    by_contra hn
    rw [decide_eq_false hn] at hd
    exact absurd hd (by decide)
  induction x using EReal.rec with
  | bot => simp at hlt
  | top => simp at hlt
  | coe a => exact ⟨a, rfl⟩

/-- The precondition makes the inputs of the totals real numbers. -/
theorem inputs [Cert.Pre_finite.Facts] (x0 : FVec Ideal S2048x1024 .f32) (x1 : FVec Ideal S1024x3072 .f32) (x2 : FVec Ideal S3072 .f32)
    (x3 x4 : FVec Ideal S1024 .f32) (x5 : FVec Ideal S1024x1024 .f32) (x6 : FVec Ideal S1024 .f32)
    (h0 : (Cert.Pre_finite.fn (F := Ideal) x0 x1 x2 x3 x4 x5 x6).1 = fun _ => 1#1)
    (h1 : (Cert.Pre_finite.fn (F := Ideal) x0 x1 x2 x3 x4 x5 x6).2.1 = fun _ => 1#1)
    (h2 : (Cert.Pre_finite.fn (F := Ideal) x0 x1 x2 x3 x4 x5 x6).2.2.1 = fun _ => 1#1)
    (h3 : (Cert.Pre_finite.fn (F := Ideal) x0 x1 x2 x3 x4 x5 x6).2.2.2.1 = fun _ => 1#1)
    (h4 : (Cert.Pre_finite.fn (F := Ideal) x0 x1 x2 x3 x4 x5 x6).2.2.2.2 = fun _ => 1#1) :
    Finite.Inputs (fun r d => x0 (ix2 r d)) (fun d j => x1 (ix2 d j)) (fun j => x2 (ix1 j)) (fun d => x3 (ix1 d))
      (fun d => x4 (ix1 d)) where
  points r d := real_of_below _ (congrFun h0 (ix2 r d))
  weights d j hj := by
    have e : (ix2 d j : S1024x3072.Idx) = fun a => ⟨(![0, 0] : Fin 2 → Nat) a + ((ix2 d (⟨j.val, hj⟩ : Fin 2048) : (⟨2, ![1024, 2048]⟩ : Shape).Idx) a).val,
        by match a with
          | ⟨0, _⟩ => show 0 + d.val < 1024; omega
          | ⟨1, _⟩ => show 0 + j.val < 3072; omega⟩ :=
      funext fun a => Fin.ext (by
        match a with
        | ⟨0, _⟩ => show d.val = 0 + d.val; omega
        | ⟨1, _⟩ => show j.val = 0 + j.val; omega)
    rw [e]
    exact real_of_below _ (congrFun h1 (ix2 d (⟨j.val, hj⟩ : Fin 2048)))
  biases j hj := by
    have e : (ix1 j : S3072.Idx) = fun a => ⟨(![0] : Fin 1 → Nat) a + ((ix1 (⟨j.val, hj⟩ : Fin 2048) : (⟨1, ![2048]⟩ : Shape).Idx) a).val,
        by match a with | ⟨0, _⟩ => show 0 + j.val < 3072; omega⟩ :=
      funext fun a => Fin.ext (by match a with | ⟨0, _⟩ => show j.val = 0 + j.val; omega)
    rw [e]
    exact real_of_below _ (congrFun h2 (ix1 (⟨j.val, hj⟩ : Fin 2048)))
  scale d := real_of_below _ (congrFun h3 (ix1 d))
  shift d := real_of_below _ (congrFun h4 (ix1 d))

/-! ### The reference's results -/

section Results

variable (x0 : FVec Ideal S2048x1024 .f32) (x1 : FVec Ideal S1024x3072 .f32) (x2 : FVec Ideal S3072 .f32)
  (x3 x4 : FVec Ideal S1024 .f32) (x5 : FVec Ideal S1024x1024 .f32) (x6 : FVec Ideal S1024 .f32)

/-- The reference's messages as an array. -/
theorem messages_eq : Cert.ReferenceIdeal.Read.val_main_v59 (F := Ideal) x0 x1 x2 x3 x4 x5 x6
    = fun i : S2048x1024.Idx => Spec.messageOf (fun r d => x0 (ix2 r d)) (fun d j => x1 (ix2 d j)) (fun j => x2 (ix1 j))
        (fun d => x3 (ix1 d)) (fun d => x4 (ix1 d)) (fun d j => x5 (ix2 d j)) (fun d => x6 (ix1 d)) (i 0) (i 1) := by
  funext i
  obtain ⟨r, j, rfl⟩ : ∃ (r : Fin 2048) (j : Fin 1024), i = ix2 r j := ⟨i 0, i 1, eq_ix2 i⟩
  exact RefAttend.message_apply x0 x1 x2 x3 x4 x5 x6 r j

/-- The reference's positions as an array, where the inputs of the totals are real numbers. -/
theorem positions_eq (H : Finite.Inputs (fun r d => x0 (ix2 r d)) (fun d j => x1 (ix2 d j)) (fun j => x2 (ix1 j))
      (fun d => x3 (ix1 d)) (fun d => x4 (ix1 d))) :
    Cert.ReferenceIdeal.Read.val_main_v60 (F := Ideal) x0 x1 x2 x3 x4
    = fun i : S2048x16.Idx => Spec.pickedOf (fun r d => x0 (ix2 r d)) (fun d j => x1 (ix2 d j)) (fun j => x2 (ix1 j))
        (fun d => x3 (ix1 d)) (fun d => x4 (ix1 d)) (i 0) (i 1).val := by
  funext i
  obtain ⟨r, k, rfl⟩ : ∃ (r : Fin 2048) (k : Fin 16), i = ix2 r k := ⟨i 0, i 1, eq_ix2 i⟩
  exact (RefRank.position_apply x0 x1 x2 x3 x4 r k).trans (Finite.picked_eq H r k).symm

end Results

end Cert.Proof.Agree

end
-- ==== Proof.lean ====
/-
  The proof of `Cert.Claim`: both programs run, with unchanged arguments and every counter at zero, and the kernel program's
  results are the reference's, as extended reals — the messages for all arguments, both results where the inputs of the
  queries and keys are finite.

  The mathematics is in the modules below `Proof/`: `Spec` states what both programs compute; `Ranking` compares the two ways
  of naming the largest entries; `Heads`, `HeadsRead` and `ProjectRead` read the kernel's two calls at one block; `Placing` and
  `Arrays` assemble the blocks; `KernelRun` is the kernel program's run; `RefRows`, `RefAttend` and `RefRank` read the
  reference; `Finite` and `Agree` compare.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem

/-- The side conditions of the precondition's text. -/
theorem preFacts : Cert.Pre_finite.Facts where
  slices_S1024x3072_S1024x2048_0_0 := by decide
  slices_S3072_S2048_0 := by decide
  bcast_S_S2048x1024 := by decide
  bcast_S_S1024x2048 := by decide
  bcast_S_S2048 := by decide
  bcast_S_S1024 := by decide

/-- The side conditions of the mask's text. -/
theorem onFacts : Cert.On_message_only.Facts where
  bcast_S_S2048x1024 := by decide
  bcast_S_S2048x16 := by decide

/-- The facts of the programs, the precondition and the mask, as instances. -/
instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := preFacts
instance : Cert.On_message_only.Facts := onFacts

/-- The reference runs with unchanged arguments; it declares no semaphore, so every counter is at zero. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The messages agree, for all arguments. -/
theorem message_only : Cert.algebraic_KernelIdeal_ReferenceIdeal_on_message_only := by
  intro m ρ m' ρ' _ hagree
  refine ⟨fun c => KernelRun.messages m c, fun c => KernelRun.positions m c, ?_, ?_⟩
  · exact (θ_run Cert.KernelIdeal.defs _ _).mono
      (fun r h c => ⟨fun i _ => congrFun (h c).1 i, fun i _ => congrFun (h c).2.1 i, (h c).2.2⟩) (KernelRun.run m ρ)
  · refine (θ_run Cert.ReferenceIdeal.defs _ _).mono (fun r h c => ⟨fun i _ => ?_, fun i hi => ?_, (h c).2.2⟩)
      (Cert.ReferenceIdeal.Value.run (F := Ideal) m' ρ')
    · refine congrFun ((h c).1.trans ?_) i
      obtain ⟨h0, h1, h2, h3, h4, h5, h6⟩ := hagree c
      rw [Cert.ReferenceIdeal.Read.val_main_v59_eq, h0, h1, h2, h3, h4, h5, h6]
      exact Agree.messages_eq _ _ _ _ _ _ _
    · have hm : (0#1 : BitVec 1) = 1#1 := hi
      exact absurd hm (by decide)

/-- Both results agree where the inputs of the queries and keys are finite. -/
theorem both : Cert.algebraic_KernelIdeal_ReferenceIdeal_pre_finite := by
  intro m ρ m' ρ' hpre hagree
  refine ⟨fun c => KernelRun.messages m c, fun c => KernelRun.positions m c, KernelRun.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6⟩ := hagree c
    rw [Cert.ReferenceIdeal.Read.val_main_v59_eq, h0, h1, h2, h3, h4, h5, h6]
    exact Agree.messages_eq _ _ _ _ _ _ _
  · obtain ⟨h0, h1, h2, h3, h4, -, -⟩ := hagree c
    obtain ⟨p0, p1, p2, p3, p4⟩ := hpre c
    rw [Cert.ReferenceIdeal.Read.val_main_v60_eq, h0, h1, h2, h3, h4]
    exact Agree.positions_eq _ _ _ _ _ (Agree.inputs _ _ _ _ _ _ _ p0 p1 p2 p3 p4)

/-- Everything the certificate claims. -/
theorem claim : Cert.Claim :=
  ⟨Cert.Kernel.Gen.facts, Cert.KernelIdeal.Gen.facts, Cert.ReferenceIdeal.Gen.facts, preFacts, onFacts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    message_only, both⟩

end Cert.Proof

end
